-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_ray [hPre_finite_x_ray : Cert.Pre_finite_x_ray.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_ray.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ray [hPre_finite_x_ray : Cert.Pre_finite_x_ray.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ray.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_x_ray [hKernelIdeal : Cert.KernelIdeal.Facts] [hPre_finite_x_ray : Cert.Pre_finite_x_ray.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_ray m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_x_ray [hReferenceIdeal : Cert.ReferenceIdeal.Facts] [hPre_finite_x_ray : Cert.Pre_finite_x_ray.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ray m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_x_ray [hKernelIdeal : Cert.KernelIdeal.Facts] [hReferenceIdeal : Cert.ReferenceIdeal.Facts] [hPre_finite_x_ray : Cert.Pre_finite_x_ray.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_ray m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_x_ray : Cert.Pre_finite_x_ray.Facts),
    quiescent_Kernel (hKernel := hKernel)
    ∧ quiescent_KernelIdeal (hKernelIdeal := hKernelIdeal)
    ∧ quiescent_KernelIdeal_pre_finite_x_ray (hKernelIdeal := hKernelIdeal) (hPre_finite_x_ray := hPre_finite_x_ray)
    ∧ quiescent_ReferenceIdeal (hReferenceIdeal := hReferenceIdeal)
    ∧ quiescent_ReferenceIdeal_pre_finite_x_ray (hReferenceIdeal := hReferenceIdeal) (hPre_finite_x_ray := hPre_finite_x_ray)
    ∧ preserves_Kernel_KernelIdeal
    ∧ algebraic_KernelIdeal_ReferenceIdeal_pre_finite_x_ray (hKernelIdeal := hKernelIdeal) (hReferenceIdeal := hReferenceIdeal) (hPre_finite_x_ray := hPre_finite_x_ray)
-- ==== Pre_finite_x_ray.lean ====
abbrev S8x1x512x512 : Shape := ⟨4, ![8, 1, 512, 512]⟩
abbrev S_ : Shape := ⟨0, ![]⟩

class Facts : Prop where
  bcast_S_S8x1x512x512 : S_.BroadcastsInDim S8x1x512x512 (![] : Fin 0 → Fin S8x1x512x512.rank)

variable [Facts]

def fn {F : FTy → Type} [FloatOps F] (main_arg0 : FVec F S8x1x512x512 .f32) (main_arg1 : FVec F S8x1x512x512 .f32) : IVec S8x1x512x512 1 :=
  let main_v0 : FVec F S8x1x512x512 .f32 := Host.absf main_arg1
  let main_cst : FVec F S_ .f32 := constant S_ .f32 0x7F800000#32
  let main_v1 : FVec F S8x1x512x512 .f32 := broadcastInDim S8x1x512x512 ![] bcast_S_S8x1x512x512 main_cst
  let main_v2 : IVec S8x1x512x512 1 := cmpf .olt main_v0 main_v1
  main_v2
-- ==== Kernel.lean ====
abbrev S8x1x512x512 : Shape := ⟨4, ![8, 1, 512, 512]⟩
abbrev S128x128 : Shape := ⟨2, ![128, 128]⟩
abbrev S8x512x512 : Shape := ⟨3, ![8, 512, 512]⟩
abbrev S128 : Shape := ⟨1, ![128]⟩
abbrev S_ : Shape := ⟨0, ![]⟩
abbrev S1x128 : Shape := ⟨2, ![1, 128]⟩
abbrev S512 : Shape := ⟨1, ![512]⟩
abbrev S512x1 : Shape := ⟨2, ![512, 1]⟩
abbrev S512x128 : Shape := ⟨2, ![512, 128]⟩
abbrev S128x512 : Shape := ⟨2, ![128, 512]⟩
abbrev S8x128x128 : Shape := ⟨3, ![8, 128, 128]⟩
abbrev S1x512x512 : Shape := ⟨3, ![1, 512, 512]⟩
abbrev S1x128x128 : Shape := ⟨3, ![1, 128, 128]⟩
abbrev S512x512 : Shape := ⟨2, ![512, 512]⟩
abbrev S8x128x128x128 : Shape := ⟨4, ![8, 128, 128, 128]⟩
abbrev S1x16x128x128 : Shape := ⟨4, ![1, 16, 128, 128]⟩
abbrev S1x1x128x128 : Shape := ⟨4, ![1, 1, 128, 128]⟩
abbrev S8x1x128x128x128 : Shape := ⟨5, ![8, 1, 128, 128, 128]⟩

abbrev nBuf : Space → Nat
  | .hbm => 51
  | .vmem => 17
  | .smem => 0
  | _ => 0

abbrev bufTy : (tb : Table) → Fin (tcTables nBuf tb) → BufTy
  | .hbm, ⟨0, _⟩ => ⟨S8x1x512x512, .f32⟩
  | .hbm, ⟨1, _⟩ => ⟨S8x1x512x512, .f32⟩
  | .hbm, ⟨2, _⟩ => ⟨S128x128, .f32⟩
  | .hbm, ⟨3, _⟩ => ⟨S8x512x512, .f32⟩
  | .hbm, ⟨4, _⟩ => ⟨S8x512x512, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S1x128, .f32⟩
  | .hbm, ⟨16, _⟩ => ⟨S512, .f32⟩
  | .hbm, ⟨17, _⟩ => ⟨S512x1, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .i1⟩
  | .hbm, ⟨38, _⟩ => ⟨S512x128, .f32⟩
  | .hbm, ⟨39, _⟩ => ⟨S512x128, .f32⟩
  | .hbm, ⟨40, _⟩ => ⟨S_, .f32⟩
  | .hbm, ⟨41, _⟩ => ⟨S_, .f32⟩
  | .hbm, ⟨42, _⟩ => ⟨S512x128, .i1⟩
  | .hbm, ⟨43, _⟩ => ⟨S512x128, .f32⟩
  | .hbm, ⟨44, _⟩ => ⟨S512x128, .f32⟩
  | .hbm, ⟨45, _⟩ => ⟨S128x512, .f32⟩
  | .hbm, ⟨46, _⟩ => ⟨S512x128, .f32⟩
  | .hbm, ⟨47, _⟩ => ⟨S8x128x128, .f32⟩
  | .hbm, ⟨48, _⟩ => ⟨S8x128x128, .f32⟩
  | .hbm, ⟨49, _⟩ => ⟨S8x128x128x128, .f32⟩
  | .hbm, ⟨50, _⟩ => ⟨S8x1x128x128x128, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S128x512, .f32⟩
  | .local _ .vmem, ⟨5, _⟩ => ⟨S512x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S128x128, .f32⟩
  | .local _ .vmem, ⟨15, _⟩ => ⟨S1x16x128x128, .f32⟩
  | .local _ .vmem, ⟨16, _⟩ => ⟨S1x16x128x128, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32_0 : Ref sig .tc := ⟨.hbm, 47, rfl⟩
abbrev main_v32_1 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S8x1x512x512 : Shape := ⟨4, ![8, 1, 512, 512]⟩
abbrev S_ : Shape := ⟨0, ![]⟩
abbrev S128 : Shape := ⟨1, ![128]⟩
abbrev S512 : Shape := ⟨1, ![512]⟩
abbrev S1x128 : Shape := ⟨2, ![1, 128]⟩
abbrev S512x1 : Shape := ⟨2, ![512, 1]⟩
abbrev S512x128 : Shape := ⟨2, ![512, 128]⟩
abbrev S8x1x512x128 : Shape := ⟨4, ![8, 1, 512, 128]⟩
abbrev S8x1x128x512 : Shape := ⟨4, ![8, 1, 128, 512]⟩
abbrev S8x1x128x128 : Shape := ⟨4, ![8, 1, 128, 128]⟩
abbrev S5 : Shape := ⟨1, ![5]⟩
abbrev S8x1x128x128x1 : Shape := ⟨5, ![8, 1, 128, 128, 1]⟩
abbrev S1x1x1x1x5 : Shape := ⟨5, ![1, 1, 1, 1, 5]⟩
abbrev S8x1x128x128x5 : Shape := ⟨5, ![8, 1, 128, 128, 5]⟩
abbrev S8 : Shape := ⟨1, ![8]⟩
abbrev S8x1x1x1x1 : Shape := ⟨5, ![8, 1, 1, 1, 1]⟩
abbrev S1x1x128x1x1 : Shape := ⟨5, ![1, 1, 128, 1, 1]⟩
abbrev S1x1x1x128x1 : Shape := ⟨5, ![1, 1, 1, 128, 1]⟩
abbrev S8x1x128x128x128 : Shape := ⟨5, ![8, 1, 128, 128, 128]⟩
abbrev S8x1x128x128x5x1 : Shape := ⟨6, ![8, 1, 128, 128, 5, 1]⟩
abbrev S8x1x128x128x5x5 : Shape := ⟨6, ![8, 1, 128, 128, 5, 5]⟩

abbrev nBuf : Space → Nat
  | .hbm => 389
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x1x512x512, .f32⟩
  | 3 => ⟨S_, .f32⟩
  | 4 => ⟨S_, .f32⟩
  | 5 => ⟨S_, .f32⟩
  | 6 => ⟨S128, .f32⟩
  | 7 => ⟨S_, .f32⟩
  | 8 => ⟨S128, .f32⟩
  | 9 => ⟨S128, .f32⟩
  | 10 => ⟨S_, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S512, .f32⟩
  | 20 => ⟨S1x128, .f32⟩
  | 21 => ⟨S512x1, .f32⟩
  | 22 => ⟨S512x128, .f32⟩
  | 23 => ⟨S512x128, .f32⟩
  | 24 => ⟨S512x128, .f32⟩
  | 25 => ⟨S512x128, .f32⟩
  | 26 => ⟨S_, .f32⟩
  | 27 => ⟨S512x128, .f32⟩
  | 28 => ⟨S512x128, .f32⟩
  | 29 => ⟨S512x128, .f32⟩
  | 30 => ⟨S_, .f32⟩
  | 31 => ⟨S512x128, .f32⟩
  | 32 => ⟨S512x128, .f32⟩
  | 33 => ⟨S_, .f32⟩
  | 34 => ⟨S512x128, .f32⟩
  | 35 => ⟨S512x128, .f32⟩
  | 36 => ⟨S_, .f32⟩
  | 37 => ⟨S128, .f32⟩
  | 38 => ⟨S1x128, .f32⟩
  | 39 => ⟨S1x128, .f32⟩
  | 40 => ⟨S_, .f32⟩
  | 41 => ⟨S1x128, .f32⟩
  | 42 => ⟨S1x128, .i1⟩
  | 43 => ⟨S_, .f32⟩
  | 44 => ⟨S1x128, .f32⟩
  | 45 => ⟨S1x128, .i1⟩
  | 46 => ⟨S_, .i32⟩
  | 47 => ⟨S_, .f32⟩
  | 48 => ⟨S1x128, .f32⟩
  | 49 => ⟨S1x128, .f32⟩
  | 50 => ⟨S512x128, .f32⟩
  | 51 => ⟨S512x128, .f32⟩
  | 52 => ⟨S_, .i32⟩
  | 53 => ⟨S_, .f32⟩
  | 54 => ⟨S512x128, .i1⟩
  | 55 => ⟨S512x128, .f32⟩
  | 56 => ⟨S512x128, .f32⟩
  | 57 => ⟨S_, .f32⟩
  | 58 => ⟨S128, .f32⟩
  | 59 => ⟨S128, .i1⟩
  | 60 => ⟨S_, .f32⟩
  | 61 => ⟨S128, .f32⟩
  | 62 => ⟨S128, .i1⟩
  | 63 => ⟨S128, .i1⟩
  | 64 => ⟨S1x128, .i1⟩
  | 65 => ⟨S_, .i32⟩
  | 66 => ⟨S_, .f32⟩
  | 67 => ⟨S512x128, .i1⟩
  | 68 => ⟨S512x128, .f32⟩
  | 69 => ⟨S512x128, .f32⟩
  | 70 => ⟨S8x1x512x128, .f32⟩
  | 71 => ⟨S8x1x128x512, .f32⟩
  | 72 => ⟨S_, .f32⟩
  | 73 => ⟨S_, .f32⟩
  | 74 => ⟨S_, .f32⟩
  | 75 => ⟨S128, .f32⟩
  | 76 => ⟨S_, .f32⟩
  | 77 => ⟨S128, .f32⟩
  | 78 => ⟨S128, .f32⟩
  | 79 => ⟨S_, .f32⟩
  | 80 => ⟨S128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S512, .f32⟩
  | 89 => ⟨S1x128, .f32⟩
  | 90 => ⟨S512x1, .f32⟩
  | 91 => ⟨S512x128, .f32⟩
  | 92 => ⟨S512x128, .f32⟩
  | 93 => ⟨S512x128, .f32⟩
  | 94 => ⟨S512x128, .f32⟩
  | 95 => ⟨S_, .f32⟩
  | 96 => ⟨S512x128, .f32⟩
  | 97 => ⟨S512x128, .f32⟩
  | 98 => ⟨S512x128, .f32⟩
  | 99 => ⟨S_, .f32⟩
  | 100 => ⟨S512x128, .f32⟩
  | 101 => ⟨S512x128, .f32⟩
  | 102 => ⟨S_, .f32⟩
  | 103 => ⟨S512x128, .f32⟩
  | 104 => ⟨S512x128, .f32⟩
  | 105 => ⟨S_, .f32⟩
  | 106 => ⟨S128, .f32⟩
  | 107 => ⟨S1x128, .f32⟩
  | 108 => ⟨S1x128, .f32⟩
  | 109 => ⟨S_, .f32⟩
  | 110 => ⟨S1x128, .f32⟩
  | 111 => ⟨S1x128, .i1⟩
  | 112 => ⟨S_, .f32⟩
  | 113 => ⟨S1x128, .f32⟩
  | 114 => ⟨S1x128, .i1⟩
  | 115 => ⟨S_, .i32⟩
  | 116 => ⟨S_, .f32⟩
  | 117 => ⟨S1x128, .f32⟩
  | 118 => ⟨S1x128, .f32⟩
  | 119 => ⟨S512x128, .f32⟩
  | 120 => ⟨S512x128, .f32⟩
  | 121 => ⟨S_, .i32⟩
  | 122 => ⟨S_, .f32⟩
  | 123 => ⟨S512x128, .i1⟩
  | 124 => ⟨S512x128, .f32⟩
  | 125 => ⟨S512x128, .f32⟩
  | 126 => ⟨S_, .f32⟩
  | 127 => ⟨S128, .f32⟩
  | _ => ⟨S8x1x512x512, .f32⟩

abbrev hbmTy0_1 (i : Nat) : BufTy := match i % 128 with
  | 0 => ⟨S128, .i1⟩
  | 1 => ⟨S_, .f32⟩
  | 2 => ⟨S128, .f32⟩
  | 3 => ⟨S128, .i1⟩
  | 4 => ⟨S128, .i1⟩
  | 5 => ⟨S1x128, .i1⟩
  | 6 => ⟨S_, .i32⟩
  | 7 => ⟨S_, .f32⟩
  | 8 => ⟨S512x128, .i1⟩
  | 9 => ⟨S512x128, .f32⟩
  | 10 => ⟨S512x128, .f32⟩
  | 11 => ⟨S8x1x128x128, .f32⟩
  | 12 => ⟨S8x1x512x512, .f32⟩
  | 13 => ⟨S_, .f32⟩
  | 14 => ⟨S_, .f32⟩
  | 15 => ⟨S_, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S_, .f32⟩
  | 24 => ⟨S128, .f32⟩
  | 25 => ⟨S128, .f32⟩
  | 26 => ⟨S_, .f32⟩
  | 27 => ⟨S128, .f32⟩
  | 28 => ⟨S128, .f32⟩
  | 29 => ⟨S512, .f32⟩
  | 30 => ⟨S1x128, .f32⟩
  | 31 => ⟨S512x1, .f32⟩
  | 32 => ⟨S512x128, .f32⟩
  | 33 => ⟨S512x128, .f32⟩
  | 34 => ⟨S512x128, .f32⟩
  | 35 => ⟨S512x128, .f32⟩
  | 36 => ⟨S_, .f32⟩
  | 37 => ⟨S512x128, .f32⟩
  | 38 => ⟨S512x128, .f32⟩
  | 39 => ⟨S512x128, .f32⟩
  | 40 => ⟨S_, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S_, .f32⟩
  | 47 => ⟨S128, .f32⟩
  | 48 => ⟨S1x128, .f32⟩
  | 49 => ⟨S1x128, .f32⟩
  | 50 => ⟨S_, .f32⟩
  | 51 => ⟨S1x128, .f32⟩
  | 52 => ⟨S1x128, .i1⟩
  | 53 => ⟨S_, .f32⟩
  | 54 => ⟨S1x128, .f32⟩
  | 55 => ⟨S1x128, .i1⟩
  | 56 => ⟨S_, .i32⟩
  | 57 => ⟨S_, .f32⟩
  | 58 => ⟨S1x128, .f32⟩
  | 59 => ⟨S1x128, .f32⟩
  | 60 => ⟨S512x128, .f32⟩
  | 61 => ⟨S512x128, .f32⟩
  | 62 => ⟨S_, .i32⟩
  | 63 => ⟨S_, .f32⟩
  | 64 => ⟨S512x128, .i1⟩
  | 65 => ⟨S512x128, .f32⟩
  | 66 => ⟨S512x128, .f32⟩
  | 67 => ⟨S_, .f32⟩
  | 68 => ⟨S128, .f32⟩
  | 69 => ⟨S128, .i1⟩
  | 70 => ⟨S_, .f32⟩
  | 71 => ⟨S128, .f32⟩
  | 72 => ⟨S128, .i1⟩
  | 73 => ⟨S128, .i1⟩
  | 74 => ⟨S1x128, .i1⟩
  | 75 => ⟨S_, .i32⟩
  | 76 => ⟨S_, .f32⟩
  | 77 => ⟨S512x128, .i1⟩
  | 78 => ⟨S512x128, .f32⟩
  | 79 => ⟨S512x128, .f32⟩
  | 80 => ⟨S8x1x512x128, .f32⟩
  | 81 => ⟨S8x1x128x512, .f32⟩
  | 82 => ⟨S_, .f32⟩
  | 83 => ⟨S_, .f32⟩
  | 84 => ⟨S_, .f32⟩
  | 85 => ⟨S128, .f32⟩
  | 86 => ⟨S_, .f32⟩
  | 87 => ⟨S128, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S128, .f32⟩
  | 95 => ⟨S_, .f32⟩
  | 96 => ⟨S128, .f32⟩
  | 97 => ⟨S128, .f32⟩
  | 98 => ⟨S512, .f32⟩
  | 99 => ⟨S1x128, .f32⟩
  | 100 => ⟨S512x1, .f32⟩
  | 101 => ⟨S512x128, .f32⟩
  | 102 => ⟨S512x128, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S512x128, .f32⟩
  | 109 => ⟨S_, .f32⟩
  | 110 => ⟨S512x128, .f32⟩
  | 111 => ⟨S512x128, .f32⟩
  | 112 => ⟨S_, .f32⟩
  | 113 => ⟨S512x128, .f32⟩
  | 114 => ⟨S512x128, .f32⟩
  | 115 => ⟨S_, .f32⟩
  | 116 => ⟨S128, .f32⟩
  | 117 => ⟨S1x128, .f32⟩
  | 118 => ⟨S1x128, .f32⟩
  | 119 => ⟨S_, .f32⟩
  | 120 => ⟨S1x128, .f32⟩
  | 121 => ⟨S1x128, .i1⟩
  | 122 => ⟨S_, .f32⟩
  | 123 => ⟨S1x128, .f32⟩
  | 124 => ⟨S1x128, .i1⟩
  | 125 => ⟨S_, .i32⟩
  | 126 => ⟨S_, .f32⟩
  | 127 => ⟨S1x128, .f32⟩
  | _ => ⟨S8x1x512x512, .f32⟩

abbrev hbmTy0_2 (i : Nat) : BufTy := match i % 128 with
  | 0 => ⟨S1x128, .f32⟩
  | 1 => ⟨S512x128, .f32⟩
  | 2 => ⟨S512x128, .f32⟩
  | 3 => ⟨S_, .i32⟩
  | 4 => ⟨S_, .f32⟩
  | 5 => ⟨S512x128, .i1⟩
  | 6 => ⟨S512x128, .f32⟩
  | 7 => ⟨S512x128, .f32⟩
  | 8 => ⟨S_, .f32⟩
  | 9 => ⟨S128, .f32⟩
  | 10 => ⟨S128, .i1⟩
  | 11 => ⟨S_, .f32⟩
  | 12 => ⟨S128, .f32⟩
  | 13 => ⟨S128, .i1⟩
  | 14 => ⟨S128, .i1⟩
  | 15 => ⟨S1x128, .i1⟩
  | 16 => ⟨S_, .i32⟩
  | 17 => ⟨S_, .f32⟩
  | 18 => ⟨S512x128, .i1⟩
  | 19 => ⟨S512x128, .f32⟩
  | 20 => ⟨S512x128, .f32⟩
  | 21 => ⟨S8x1x128x128, .f32⟩
  | 22 => ⟨S_, .f32⟩
  | 23 => ⟨S8x1x128x128, .f32⟩
  | 24 => ⟨S8x1x128x128, .f32⟩
  | 25 => ⟨S_, .f32⟩
  | 26 => ⟨S8x1x128x128, .f32⟩
  | 27 => ⟨S8x1x128x128, .f32⟩
  | 28 => ⟨S_, .f32⟩
  | 29 => ⟨S8x1x128x128, .f32⟩
  | 30 => ⟨S8x1x128x128, .f32⟩
  | 31 => ⟨S8x1x128x128, .i32⟩
  | 32 => ⟨S_, .i32⟩
  | 33 => ⟨S_, .i32⟩
  | 34 => ⟨S_, .i32⟩
  | 35 => ⟨S8x1x128x128, .i32⟩
  | 36 => ⟨S8x1x128x128, .i32⟩
  | 37 => ⟨S_, .i32⟩
  | 38 => ⟨S8x1x128x128, .i32⟩
  | 39 => ⟨S8x1x128x128, .i32⟩
  | 40 => ⟨S5, .i32⟩
  | 41 => ⟨S_, .i32⟩
  | 42 => ⟨S5, .i32⟩
  | 43 => ⟨S5, .i32⟩
  | 44 => ⟨S5, .f32⟩
  | 45 => ⟨S5, .f32⟩
  | 46 => ⟨S_, .f32⟩
  | 47 => ⟨S5, .f32⟩
  | 48 => ⟨S5, .f32⟩
  | 49 => ⟨S5, .f32⟩
  | 50 => ⟨S8x1x128x128x1, .i32⟩
  | 51 => ⟨S1x1x1x1x5, .i32⟩
  | 52 => ⟨S8x1x128x128x5, .i32⟩
  | 53 => ⟨S8x1x128x128x5, .i32⟩
  | 54 => ⟨S8x1x128x128x5, .i32⟩
  | 55 => ⟨S_, .i32⟩
  | 56 => ⟨S8x1x128x128x5, .i32⟩
  | 57 => ⟨S8x1x128x128x5, .i1⟩
  | 58 => ⟨S_, .i32⟩
  | 59 => ⟨S8x1x128x128x5, .i32⟩
  | 60 => ⟨S8x1x128x128x5, .i1⟩
  | 61 => ⟨S8x1x128x128x5, .i1⟩
  | 62 => ⟨S_, .i32⟩
  | 63 => ⟨S_, .i32⟩
  | 64 => ⟨S_, .i32⟩
  | 65 => ⟨S8x1x128x128x5, .i32⟩
  | 66 => ⟨S8x1x128x128x5, .i32⟩
  | 67 => ⟨S_, .i32⟩
  | 68 => ⟨S8x1x128x128x5, .i32⟩
  | 69 => ⟨S8x1x128x128x5, .i32⟩
  | 70 => ⟨S8x1x128x128x1, .f32⟩
  | 71 => ⟨S1x1x1x1x5, .f32⟩
  | 72 => ⟨S8x1x128x128x5, .f32⟩
  | 73 => ⟨S8x1x128x128x5, .f32⟩
  | 74 => ⟨S8x1x128x128x5, .f32⟩
  | 75 => ⟨S8x1x128x128x5, .f32⟩
  | 76 => ⟨S8x1x128x128x5, .f32⟩
  | 77 => ⟨S8, .i32⟩
  | 78 => ⟨S8x1x1x1x1, .i32⟩
  | 79 => ⟨S128, .i32⟩
  | 80 => ⟨S1x1x128x1x1, .i32⟩
  | 81 => ⟨S128, .i32⟩
  | 82 => ⟨S1x1x1x128x1, .i32⟩
  | 83 => ⟨S_, .f32⟩
  | 84 => ⟨S8x1x128x128x128, .f32⟩
  | 85 => ⟨S_, .i32⟩
  | 86 => ⟨S8x1x1x1x1, .i32⟩
  | 87 => ⟨S8x1x1x1x1, .i1⟩
  | 88 => ⟨S_, .i32⟩
  | 89 => ⟨S8x1x1x1x1, .i32⟩
  | 90 => ⟨S8x1x1x1x1, .i32⟩
  | 91 => ⟨S8x1x1x1x1, .i32⟩
  | 92 => ⟨S_, .i32⟩
  | 93 => ⟨S1x1x128x1x1, .i32⟩
  | 94 => ⟨S1x1x128x1x1, .i1⟩
  | 95 => ⟨S_, .i32⟩
  | 96 => ⟨S1x1x128x1x1, .i32⟩
  | 97 => ⟨S1x1x128x1x1, .i32⟩
  | 98 => ⟨S1x1x128x1x1, .i32⟩
  | 99 => ⟨S_, .i32⟩
  | 100 => ⟨S1x1x1x128x1, .i32⟩
  | 101 => ⟨S1x1x1x128x1, .i1⟩
  | 102 => ⟨S_, .i32⟩
  | 103 => ⟨S1x1x1x128x1, .i32⟩
  | 104 => ⟨S1x1x1x128x1, .i32⟩
  | 105 => ⟨S1x1x1x128x1, .i32⟩
  | 106 => ⟨S_, .i32⟩
  | 107 => ⟨S8x1x128x128x5, .i32⟩
  | 108 => ⟨S8x1x128x128x5, .i1⟩
  | 109 => ⟨S_, .i32⟩
  | 110 => ⟨S8x1x128x128x5, .i32⟩
  | 111 => ⟨S8x1x128x128x5, .i32⟩
  | 112 => ⟨S8x1x128x128x5, .i32⟩
  | 113 => ⟨S8x1x128x128x5, .i32⟩
  | 114 => ⟨S_, .i32⟩
  | 115 => ⟨S8x1x128x128x5, .i32⟩
  | 116 => ⟨S8x1x128x128x5, .i32⟩
  | 117 => ⟨S8x1x128x128x5, .i32⟩
  | 118 => ⟨S8x1x128x128x5, .i32⟩
  | 119 => ⟨S8x1x128x128x5x1, .i32⟩
  | 120 => ⟨S8x1x128x128x5x1, .i32⟩
  | 121 => ⟨S8x1x128x128x5x1, .i32⟩
  | 122 => ⟨S8x1x128x128x5x1, .i32⟩
  | 123 => ⟨S8x1x128x128x5x1, .i32⟩
  | 124 => ⟨S8x1x128x128x5x5, .i32⟩
  | 125 => ⟨S8x1x128x128x128, .f32⟩
  | 126 => ⟨S8x1x128x128x128, .f32⟩
  | 127 => ⟨S_, .f32⟩
  | _ => ⟨S8x1x512x512, .f32⟩

abbrev hbmTy0_3 (i : Nat) : BufTy := match i % 128 with
  | 0 => ⟨S_, .f32⟩
  | 1 => ⟨S8x1x128x128x128, .f32⟩
  | 2 => ⟨S_, .f32⟩
  | 3 => ⟨S8x1x128x128x128, .f32⟩
  | 4 => ⟨S8x1x128x128x128, .f32⟩
  | _ => ⟨S8x1x512x512, .f32⟩

abbrev hbmTy (i : Nat) : BufTy := match i / 128 with
  | 0 => hbmTy0_0 i
  | 1 => hbmTy0_1 i
  | 2 => hbmTy0_2 i
  | 3 => hbmTy0_3 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_cst_1 : Ref sig .tc := ⟨.hbm, 7, rfl⟩
abbrev main_call0_v2 : Ref sig .tc := ⟨.hbm, 8, rfl⟩
abbrev main_call0_v3 : Ref sig .tc := ⟨.hbm, 9, rfl⟩
abbrev main_call0_cst_2 : Ref sig .tc := ⟨.hbm, 10, rfl⟩
abbrev main_call0_v4 : Ref sig .tc := ⟨.hbm, 11, rfl⟩
abbrev main_call0_v5 : Ref sig .tc := ⟨.hbm, 12, rfl⟩
abbrev main_call0_cst_3 : Ref sig .tc := ⟨.hbm, 13, rfl⟩
abbrev main_call0_v6 : Ref sig .tc := ⟨.hbm, 14, rfl⟩
abbrev main_call0_v7 : Ref sig .tc := ⟨.hbm, 15, rfl⟩
abbrev main_call0_cst_4 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_cst_5 : Ref sig .tc := ⟨.hbm, 30, rfl⟩
abbrev main_call0_v21 : Ref sig .tc := ⟨.hbm, 31, rfl⟩
abbrev main_call0_v22 : Ref sig .tc := ⟨.hbm, 32, rfl⟩
abbrev main_call0_cst_6 : Ref sig .tc := ⟨.hbm, 33, rfl⟩
abbrev main_call0_v23 : Ref sig .tc := ⟨.hbm, 34, rfl⟩
abbrev main_call0_v24 : Ref sig .tc := ⟨.hbm, 35, rfl⟩
abbrev main_call0_cst_7 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_cst_8 : Ref sig .tc := ⟨.hbm, 40, rfl⟩
abbrev main_call0_v28 : Ref sig .tc := ⟨.hbm, 41, rfl⟩
abbrev main_call0_v29 : Ref sig .tc := ⟨.hbm, 42, rfl⟩
abbrev main_call0_cst_9 : Ref sig .tc := ⟨.hbm, 43, rfl⟩
abbrev main_call0_v30 : Ref sig .tc := ⟨.hbm, 44, rfl⟩
abbrev main_call0_v31 : Ref sig .tc := ⟨.hbm, 45, rfl⟩
abbrev main_call0_c : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_c_10 : Ref sig .tc := ⟨.hbm, 52, rfl⟩
abbrev main_call0_call1_v0 : Ref sig .tc := ⟨.hbm, 53, rfl⟩
abbrev main_call0_call1_v1 : Ref sig .tc := ⟨.hbm, 54, rfl⟩
abbrev main_call0_call1_v2 : Ref sig .tc := ⟨.hbm, 55, rfl⟩
abbrev main_call0_v35 : Ref sig .tc := ⟨.hbm, 56, rfl⟩
abbrev main_call0_cst_11 : Ref sig .tc := ⟨.hbm, 57, rfl⟩
abbrev main_call0_v36 : Ref sig .tc := ⟨.hbm, 58, rfl⟩
abbrev main_call0_v37 : Ref sig .tc := ⟨.hbm, 59, rfl⟩
abbrev main_call0_cst_12 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_v41 : Ref sig .tc := ⟨.hbm, 64, rfl⟩
abbrev main_call0_c_13 : Ref sig .tc := ⟨.hbm, 65, rfl⟩
abbrev main_call0_call2_v0 : Ref sig .tc := ⟨.hbm, 66, rfl⟩
abbrev main_call0_call2_v1 : Ref sig .tc := ⟨.hbm, 67, rfl⟩
abbrev main_call0_call2_v2 : Ref sig .tc := ⟨.hbm, 68, rfl⟩
abbrev main_call0_v42 : Ref sig .tc := ⟨.hbm, 69, rfl⟩
abbrev main_v1 : Ref sig .tc := ⟨.hbm, 70, rfl⟩
abbrev main_v2 : Ref sig .tc := ⟨.hbm, 71, rfl⟩
abbrev main_call1_cst : Ref sig .tc := ⟨.hbm, 72, rfl⟩
abbrev main_call1_cst_0 : Ref sig .tc := ⟨.hbm, 73, rfl⟩
abbrev main_call1_v0 : Ref sig .tc := ⟨.hbm, 74, rfl⟩
abbrev main_call1_v1 : Ref sig .tc := ⟨.hbm, 75, rfl⟩
abbrev main_call1_cst_1 : Ref sig .tc := ⟨.hbm, 76, rfl⟩
abbrev main_call1_v2 : Ref sig .tc := ⟨.hbm, 77, rfl⟩
abbrev main_call1_v3 : Ref sig .tc := ⟨.hbm, 78, rfl⟩
abbrev main_call1_cst_2 : Ref sig .tc := ⟨.hbm, 79, rfl⟩
abbrev main_call1_v4 : Ref sig .tc := ⟨.hbm, 80, rfl⟩
abbrev main_call1_v5 : Ref sig .tc := ⟨.hbm, 81, rfl⟩
abbrev main_call1_cst_3 : Ref sig .tc := ⟨.hbm, 82, rfl⟩
abbrev main_call1_v6 : Ref sig .tc := ⟨.hbm, 83, rfl⟩
abbrev main_call1_v7 : Ref sig .tc := ⟨.hbm, 84, rfl⟩
abbrev main_call1_cst_4 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_v15 : Ref sig .tc := ⟨.hbm, 93, rfl⟩
abbrev main_call1_v16 : Ref sig .tc := ⟨.hbm, 94, rfl⟩
abbrev main_call1_v17 : Ref sig .tc := ⟨.hbm, 95, rfl⟩
abbrev main_call1_v18 : Ref sig .tc := ⟨.hbm, 96, rfl⟩
abbrev main_call1_v19 : Ref sig .tc := ⟨.hbm, 97, rfl⟩
abbrev main_call1_v20 : Ref sig .tc := ⟨.hbm, 98, rfl⟩
abbrev main_call1_cst_5 : Ref sig .tc := ⟨.hbm, 99, rfl⟩
abbrev main_call1_v21 : Ref sig .tc := ⟨.hbm, 100, rfl⟩
abbrev main_call1_v22 : Ref sig .tc := ⟨.hbm, 101, rfl⟩
abbrev main_call1_cst_6 : Ref sig .tc := ⟨.hbm, 102, rfl⟩
abbrev main_call1_v23 : Ref sig .tc := ⟨.hbm, 103, rfl⟩
abbrev main_call1_v24 : Ref sig .tc := ⟨.hbm, 104, rfl⟩
abbrev main_call1_cst_7 : Ref sig .tc := ⟨.hbm, 105, rfl⟩
abbrev main_call1_v25 : Ref sig .tc := ⟨.hbm, 106, rfl⟩
abbrev main_call1_v26 : Ref sig .tc := ⟨.hbm, 107, rfl⟩
abbrev main_call1_v27 : Ref sig .tc := ⟨.hbm, 108, rfl⟩
abbrev main_call1_cst_8 : Ref sig .tc := ⟨.hbm, 109, rfl⟩
abbrev main_call1_v28 : Ref sig .tc := ⟨.hbm, 110, rfl⟩
abbrev main_call1_v29 : Ref sig .tc := ⟨.hbm, 111, rfl⟩
abbrev main_call1_cst_9 : Ref sig .tc := ⟨.hbm, 112, rfl⟩
abbrev main_call1_v30 : Ref sig .tc := ⟨.hbm, 113, rfl⟩
abbrev main_call1_v31 : Ref sig .tc := ⟨.hbm, 114, rfl⟩
abbrev main_call1_c : Ref sig .tc := ⟨.hbm, 115, rfl⟩
abbrev main_call1_call0_v0 : Ref sig .tc := ⟨.hbm, 116, rfl⟩
abbrev main_call1_call0_v1 : Ref sig .tc := ⟨.hbm, 117, rfl⟩
abbrev main_call1_v32 : Ref sig .tc := ⟨.hbm, 118, rfl⟩
abbrev main_call1_v33 : Ref sig .tc := ⟨.hbm, 119, rfl⟩
abbrev main_call1_v34 : Ref sig .tc := ⟨.hbm, 120, rfl⟩
abbrev main_call1_c_10 : Ref sig .tc := ⟨.hbm, 121, rfl⟩
abbrev main_call1_call1_v0 : Ref sig .tc := ⟨.hbm, 122, rfl⟩
abbrev main_call1_call1_v1 : Ref sig .tc := ⟨.hbm, 123, rfl⟩
abbrev main_call1_call1_v2 : Ref sig .tc := ⟨.hbm, 124, rfl⟩
abbrev main_call1_v35 : Ref sig .tc := ⟨.hbm, 125, rfl⟩
abbrev main_call1_cst_11 : Ref sig .tc := ⟨.hbm, 126, rfl⟩
abbrev main_call1_v36 : Ref sig .tc := ⟨.hbm, 127, rfl⟩
abbrev main_call1_v37 : Ref sig .tc := ⟨.hbm, 128, rfl⟩
abbrev main_call1_cst_12 : Ref sig .tc := ⟨.hbm, 129, rfl⟩
abbrev main_call1_v38 : Ref sig .tc := ⟨.hbm, 130, rfl⟩
abbrev main_call1_v39 : Ref sig .tc := ⟨.hbm, 131, rfl⟩
abbrev main_call1_v40 : Ref sig .tc := ⟨.hbm, 132, rfl⟩
abbrev main_call1_v41 : Ref sig .tc := ⟨.hbm, 133, rfl⟩
abbrev main_call1_c_13 : Ref sig .tc := ⟨.hbm, 134, rfl⟩
abbrev main_call1_call2_v0 : Ref sig .tc := ⟨.hbm, 135, rfl⟩
abbrev main_call1_call2_v1 : Ref sig .tc := ⟨.hbm, 136, rfl⟩
abbrev main_call1_call2_v2 : Ref sig .tc := ⟨.hbm, 137, rfl⟩
abbrev main_call1_v42 : Ref sig .tc := ⟨.hbm, 138, rfl⟩
abbrev main_v3 : Ref sig .tc := ⟨.hbm, 139, rfl⟩
abbrev main_v4 : Ref sig .tc := ⟨.hbm, 140, rfl⟩
abbrev main_call2_cst : Ref sig .tc := ⟨.hbm, 141, rfl⟩
abbrev main_call2_cst_0 : Ref sig .tc := ⟨.hbm, 142, rfl⟩
abbrev main_call2_v0 : Ref sig .tc := ⟨.hbm, 143, rfl⟩
abbrev main_call2_v1 : Ref sig .tc := ⟨.hbm, 144, rfl⟩
abbrev main_call2_cst_1 : Ref sig .tc := ⟨.hbm, 145, rfl⟩
abbrev main_call2_v2 : Ref sig .tc := ⟨.hbm, 146, rfl⟩
abbrev main_call2_v3 : Ref sig .tc := ⟨.hbm, 147, rfl⟩
abbrev main_call2_cst_2 : Ref sig .tc := ⟨.hbm, 148, rfl⟩
abbrev main_call2_v4 : Ref sig .tc := ⟨.hbm, 149, rfl⟩
abbrev main_call2_v5 : Ref sig .tc := ⟨.hbm, 150, rfl⟩
abbrev main_call2_cst_3 : Ref sig .tc := ⟨.hbm, 151, rfl⟩
abbrev main_call2_v6 : Ref sig .tc := ⟨.hbm, 152, rfl⟩
abbrev main_call2_v7 : Ref sig .tc := ⟨.hbm, 153, rfl⟩
abbrev main_call2_cst_4 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_v12 : Ref sig .tc := ⟨.hbm, 159, rfl⟩
abbrev main_call2_v13 : Ref sig .tc := ⟨.hbm, 160, rfl⟩
abbrev main_call2_v14 : Ref sig .tc := ⟨.hbm, 161, rfl⟩
abbrev main_call2_v15 : Ref sig .tc := ⟨.hbm, 162, rfl⟩
abbrev main_call2_v16 : Ref sig .tc := ⟨.hbm, 163, rfl⟩
abbrev main_call2_v17 : Ref sig .tc := ⟨.hbm, 164, rfl⟩
abbrev main_call2_v18 : Ref sig .tc := ⟨.hbm, 165, rfl⟩
abbrev main_call2_v19 : Ref sig .tc := ⟨.hbm, 166, rfl⟩
abbrev main_call2_v20 : Ref sig .tc := ⟨.hbm, 167, rfl⟩
abbrev main_call2_cst_5 : Ref sig .tc := ⟨.hbm, 168, rfl⟩
abbrev main_call2_v21 : Ref sig .tc := ⟨.hbm, 169, rfl⟩
abbrev main_call2_v22 : Ref sig .tc := ⟨.hbm, 170, rfl⟩
abbrev main_call2_cst_6 : Ref sig .tc := ⟨.hbm, 171, rfl⟩
abbrev main_call2_v23 : Ref sig .tc := ⟨.hbm, 172, rfl⟩
abbrev main_call2_v24 : Ref sig .tc := ⟨.hbm, 173, rfl⟩
abbrev main_call2_cst_7 : Ref sig .tc := ⟨.hbm, 174, rfl⟩
abbrev main_call2_v25 : Ref sig .tc := ⟨.hbm, 175, rfl⟩
abbrev main_call2_v26 : Ref sig .tc := ⟨.hbm, 176, rfl⟩
abbrev main_call2_v27 : Ref sig .tc := ⟨.hbm, 177, rfl⟩
abbrev main_call2_cst_8 : Ref sig .tc := ⟨.hbm, 178, rfl⟩
abbrev main_call2_v28 : Ref sig .tc := ⟨.hbm, 179, rfl⟩
abbrev main_call2_v29 : Ref sig .tc := ⟨.hbm, 180, rfl⟩
abbrev main_call2_cst_9 : Ref sig .tc := ⟨.hbm, 181, rfl⟩
abbrev main_call2_v30 : Ref sig .tc := ⟨.hbm, 182, rfl⟩
abbrev main_call2_v31 : Ref sig .tc := ⟨.hbm, 183, rfl⟩
abbrev main_call2_c : Ref sig .tc := ⟨.hbm, 184, rfl⟩
abbrev main_call2_call0_v0 : Ref sig .tc := ⟨.hbm, 185, rfl⟩
abbrev main_call2_call0_v1 : Ref sig .tc := ⟨.hbm, 186, rfl⟩
abbrev main_call2_v32 : Ref sig .tc := ⟨.hbm, 187, rfl⟩
abbrev main_call2_v33 : Ref sig .tc := ⟨.hbm, 188, rfl⟩
abbrev main_call2_v34 : Ref sig .tc := ⟨.hbm, 189, rfl⟩
abbrev main_call2_c_10 : Ref sig .tc := ⟨.hbm, 190, rfl⟩
abbrev main_call2_call1_v0 : Ref sig .tc := ⟨.hbm, 191, rfl⟩
abbrev main_call2_call1_v1 : Ref sig .tc := ⟨.hbm, 192, rfl⟩
abbrev main_call2_call1_v2 : Ref sig .tc := ⟨.hbm, 193, rfl⟩
abbrev main_call2_v35 : Ref sig .tc := ⟨.hbm, 194, rfl⟩
abbrev main_call2_cst_11 : Ref sig .tc := ⟨.hbm, 195, rfl⟩
abbrev main_call2_v36 : Ref sig .tc := ⟨.hbm, 196, rfl⟩
abbrev main_call2_v37 : Ref sig .tc := ⟨.hbm, 197, rfl⟩
abbrev main_call2_cst_12 : Ref sig .tc := ⟨.hbm, 198, rfl⟩
abbrev main_call2_v38 : Ref sig .tc := ⟨.hbm, 199, rfl⟩
abbrev main_call2_v39 : Ref sig .tc := ⟨.hbm, 200, rfl⟩
abbrev main_call2_v40 : Ref sig .tc := ⟨.hbm, 201, rfl⟩
abbrev main_call2_v41 : Ref sig .tc := ⟨.hbm, 202, rfl⟩
abbrev main_call2_c_13 : Ref sig .tc := ⟨.hbm, 203, rfl⟩
abbrev main_call2_call2_v0 : Ref sig .tc := ⟨.hbm, 204, rfl⟩
abbrev main_call2_call2_v1 : Ref sig .tc := ⟨.hbm, 205, rfl⟩
abbrev main_call2_call2_v2 : Ref sig .tc := ⟨.hbm, 206, rfl⟩
abbrev main_call2_v42 : Ref sig .tc := ⟨.hbm, 207, rfl⟩
abbrev main_v5 : Ref sig .tc := ⟨.hbm, 208, rfl⟩
abbrev main_v6 : Ref sig .tc := ⟨.hbm, 209, rfl⟩
abbrev main_call3_cst : Ref sig .tc := ⟨.hbm, 210, rfl⟩
abbrev main_call3_cst_0 : Ref sig .tc := ⟨.hbm, 211, rfl⟩
abbrev main_call3_v0 : Ref sig .tc := ⟨.hbm, 212, rfl⟩
abbrev main_call3_v1 : Ref sig .tc := ⟨.hbm, 213, rfl⟩
abbrev main_call3_cst_1 : Ref sig .tc := ⟨.hbm, 214, rfl⟩
abbrev main_call3_v2 : Ref sig .tc := ⟨.hbm, 215, rfl⟩
abbrev main_call3_v3 : Ref sig .tc := ⟨.hbm, 216, rfl⟩
abbrev main_call3_cst_2 : Ref sig .tc := ⟨.hbm, 217, rfl⟩
abbrev main_call3_v4 : Ref sig .tc := ⟨.hbm, 218, rfl⟩
abbrev main_call3_v5 : Ref sig .tc := ⟨.hbm, 219, rfl⟩
abbrev main_call3_cst_3 : Ref sig .tc := ⟨.hbm, 220, rfl⟩
abbrev main_call3_v6 : Ref sig .tc := ⟨.hbm, 221, rfl⟩
abbrev main_call3_v7 : Ref sig .tc := ⟨.hbm, 222, rfl⟩
abbrev main_call3_cst_4 : Ref sig .tc := ⟨.hbm, 223, rfl⟩
abbrev main_call3_v8 : Ref sig .tc := ⟨.hbm, 224, rfl⟩
abbrev main_call3_v9 : Ref sig .tc := ⟨.hbm, 225, rfl⟩
abbrev main_call3_v10 : Ref sig .tc := ⟨.hbm, 226, rfl⟩
abbrev main_call3_v11 : Ref sig .tc := ⟨.hbm, 227, rfl⟩
abbrev main_call3_v12 : Ref sig .tc := ⟨.hbm, 228, rfl⟩
abbrev main_call3_v13 : Ref sig .tc := ⟨.hbm, 229, rfl⟩
abbrev main_call3_v14 : Ref sig .tc := ⟨.hbm, 230, rfl⟩
abbrev main_call3_v15 : Ref sig .tc := ⟨.hbm, 231, rfl⟩
abbrev main_call3_v16 : Ref sig .tc := ⟨.hbm, 232, rfl⟩
abbrev main_call3_v17 : Ref sig .tc := ⟨.hbm, 233, rfl⟩
abbrev main_call3_v18 : Ref sig .tc := ⟨.hbm, 234, rfl⟩
abbrev main_call3_v19 : Ref sig .tc := ⟨.hbm, 235, rfl⟩
abbrev main_call3_v20 : Ref sig .tc := ⟨.hbm, 236, rfl⟩
abbrev main_call3_cst_5 : Ref sig .tc := ⟨.hbm, 237, rfl⟩
abbrev main_call3_v21 : Ref sig .tc := ⟨.hbm, 238, rfl⟩
abbrev main_call3_v22 : Ref sig .tc := ⟨.hbm, 239, rfl⟩
abbrev main_call3_cst_6 : Ref sig .tc := ⟨.hbm, 240, rfl⟩
abbrev main_call3_v23 : Ref sig .tc := ⟨.hbm, 241, rfl⟩
abbrev main_call3_v24 : Ref sig .tc := ⟨.hbm, 242, rfl⟩
abbrev main_call3_cst_7 : Ref sig .tc := ⟨.hbm, 243, rfl⟩
abbrev main_call3_v25 : Ref sig .tc := ⟨.hbm, 244, rfl⟩
abbrev main_call3_v26 : Ref sig .tc := ⟨.hbm, 245, rfl⟩
abbrev main_call3_v27 : Ref sig .tc := ⟨.hbm, 246, rfl⟩
abbrev main_call3_cst_8 : Ref sig .tc := ⟨.hbm, 247, rfl⟩
abbrev main_call3_v28 : Ref sig .tc := ⟨.hbm, 248, rfl⟩
abbrev main_call3_v29 : Ref sig .tc := ⟨.hbm, 249, rfl⟩
abbrev main_call3_cst_9 : Ref sig .tc := ⟨.hbm, 250, rfl⟩
abbrev main_call3_v30 : Ref sig .tc := ⟨.hbm, 251, rfl⟩
abbrev main_call3_v31 : Ref sig .tc := ⟨.hbm, 252, rfl⟩
abbrev main_call3_c : Ref sig .tc := ⟨.hbm, 253, rfl⟩
abbrev main_call3_call0_v0 : Ref sig .tc := ⟨.hbm, 254, rfl⟩
abbrev main_call3_call0_v1 : Ref sig .tc := ⟨.hbm, 255, rfl⟩
abbrev main_call3_v32 : Ref sig .tc := ⟨.hbm, 256, rfl⟩
abbrev main_call3_v33 : Ref sig .tc := ⟨.hbm, 257, rfl⟩
abbrev main_call3_v34 : Ref sig .tc := ⟨.hbm, 258, rfl⟩
abbrev main_call3_c_10 : Ref sig .tc := ⟨.hbm, 259, rfl⟩
abbrev main_call3_call1_v0 : Ref sig .tc := ⟨.hbm, 260, rfl⟩
abbrev main_call3_call1_v1 : Ref sig .tc := ⟨.hbm, 261, rfl⟩
abbrev main_call3_call1_v2 : Ref sig .tc := ⟨.hbm, 262, rfl⟩
abbrev main_call3_v35 : Ref sig .tc := ⟨.hbm, 263, rfl⟩
abbrev main_call3_cst_11 : Ref sig .tc := ⟨.hbm, 264, rfl⟩
abbrev main_call3_v36 : Ref sig .tc := ⟨.hbm, 265, rfl⟩
abbrev main_call3_v37 : Ref sig .tc := ⟨.hbm, 266, rfl⟩
abbrev main_call3_cst_12 : Ref sig .tc := ⟨.hbm, 267, rfl⟩
abbrev main_call3_v38 : Ref sig .tc := ⟨.hbm, 268, rfl⟩
abbrev main_call3_v39 : Ref sig .tc := ⟨.hbm, 269, rfl⟩
abbrev main_call3_v40 : Ref sig .tc := ⟨.hbm, 270, rfl⟩
abbrev main_call3_v41 : Ref sig .tc := ⟨.hbm, 271, rfl⟩
abbrev main_call3_c_13 : Ref sig .tc := ⟨.hbm, 272, rfl⟩
abbrev main_call3_call2_v0 : Ref sig .tc := ⟨.hbm, 273, rfl⟩
abbrev main_call3_call2_v1 : Ref sig .tc := ⟨.hbm, 274, rfl⟩
abbrev main_call3_call2_v2 : Ref sig .tc := ⟨.hbm, 275, rfl⟩
abbrev main_call3_v42 : Ref sig .tc := ⟨.hbm, 276, rfl⟩
abbrev main_v7 : Ref sig .tc := ⟨.hbm, 277, rfl⟩
abbrev main_cst : Ref sig .tc := ⟨.hbm, 278, rfl⟩
abbrev main_v8 : Ref sig .tc := ⟨.hbm, 279, rfl⟩
abbrev main_v9 : Ref sig .tc := ⟨.hbm, 280, rfl⟩
abbrev main_cst_0 : Ref sig .tc := ⟨.hbm, 281, rfl⟩
abbrev main_v10 : Ref sig .tc := ⟨.hbm, 282, rfl⟩
abbrev main_v11 : Ref sig .tc := ⟨.hbm, 283, rfl⟩
abbrev main_cst_1 : Ref sig .tc := ⟨.hbm, 284, rfl⟩
abbrev main_v12 : Ref sig .tc := ⟨.hbm, 285, rfl⟩
abbrev main_v13 : Ref sig .tc := ⟨.hbm, 286, rfl⟩
abbrev main_v14 : Ref sig .tc := ⟨.hbm, 287, rfl⟩
abbrev main_c : Ref sig .tc := ⟨.hbm, 288, rfl⟩
abbrev main_c_2 : Ref sig .tc := ⟨.hbm, 289, rfl⟩
abbrev main_call4_v0 : Ref sig .tc := ⟨.hbm, 290, rfl⟩
abbrev main_call4_v1 : Ref sig .tc := ⟨.hbm, 291, rfl⟩
abbrev main_call4_v2 : Ref sig .tc := ⟨.hbm, 292, rfl⟩
abbrev main_call4_v3 : Ref sig .tc := ⟨.hbm, 293, rfl⟩
abbrev main_call4_v4 : Ref sig .tc := ⟨.hbm, 294, rfl⟩
abbrev main_v15 : Ref sig .tc := ⟨.hbm, 295, rfl⟩
abbrev main_v16 : Ref sig .tc := ⟨.hbm, 296, rfl⟩
abbrev main_c_3 : Ref sig .tc := ⟨.hbm, 297, rfl⟩
abbrev main_v17 : Ref sig .tc := ⟨.hbm, 298, rfl⟩
abbrev main_v18 : Ref sig .tc := ⟨.hbm, 299, rfl⟩
abbrev main_v19 : Ref sig .tc := ⟨.hbm, 300, rfl⟩
abbrev main_v20 : Ref sig .tc := ⟨.hbm, 301, rfl⟩
abbrev main_cst_4 : Ref sig .tc := ⟨.hbm, 302, rfl⟩
abbrev main_v21 : Ref sig .tc := ⟨.hbm, 303, rfl⟩
abbrev main_v22 : Ref sig .tc := ⟨.hbm, 304, rfl⟩
abbrev main_v23 : Ref sig .tc := ⟨.hbm, 305, rfl⟩
abbrev main_v24 : Ref sig .tc := ⟨.hbm, 306, rfl⟩
abbrev main_v25 : Ref sig .tc := ⟨.hbm, 307, rfl⟩
abbrev main_v26 : Ref sig .tc := ⟨.hbm, 308, rfl⟩
abbrev main_v27 : Ref sig .tc := ⟨.hbm, 309, rfl⟩
abbrev main_v28 : Ref sig .tc := ⟨.hbm, 310, rfl⟩
abbrev main_c_5 : Ref sig .tc := ⟨.hbm, 311, rfl⟩
abbrev main_v29 : Ref sig .tc := ⟨.hbm, 312, rfl⟩
abbrev main_v30 : Ref sig .tc := ⟨.hbm, 313, rfl⟩
abbrev main_c_6 : Ref sig .tc := ⟨.hbm, 314, rfl⟩
abbrev main_v31 : Ref sig .tc := ⟨.hbm, 315, rfl⟩
abbrev main_v32 : Ref sig .tc := ⟨.hbm, 316, rfl⟩
abbrev main_v33 : Ref sig .tc := ⟨.hbm, 317, rfl⟩
abbrev main_c_7 : Ref sig .tc := ⟨.hbm, 318, rfl⟩
abbrev main_c_8 : Ref sig .tc := ⟨.hbm, 319, rfl⟩
abbrev main_call5_v0 : Ref sig .tc := ⟨.hbm, 320, rfl⟩
abbrev main_call5_v1 : Ref sig .tc := ⟨.hbm, 321, rfl⟩
abbrev main_call5_v2 : Ref sig .tc := ⟨.hbm, 322, rfl⟩
abbrev main_call5_v3 : Ref sig .tc := ⟨.hbm, 323, rfl⟩
abbrev main_call5_v4 : Ref sig .tc := ⟨.hbm, 324, rfl⟩
abbrev main_v34 : Ref sig .tc := ⟨.hbm, 325, rfl⟩
abbrev main_v35 : Ref sig .tc := ⟨.hbm, 326, rfl⟩
abbrev main_v36 : Ref sig .tc := ⟨.hbm, 327, rfl⟩
abbrev main_v37 : Ref sig .tc := ⟨.hbm, 328, rfl⟩
abbrev main_v38 : Ref sig .tc := ⟨.hbm, 329, rfl⟩
abbrev main_v39 : Ref sig .tc := ⟨.hbm, 330, rfl⟩
abbrev main_v40 : Ref sig .tc := ⟨.hbm, 331, rfl⟩
abbrev main_v41 : Ref sig .tc := ⟨.hbm, 332, rfl⟩
abbrev main_v42 : Ref sig .tc := ⟨.hbm, 333, rfl⟩
abbrev main_v43 : Ref sig .tc := ⟨.hbm, 334, rfl⟩
abbrev main_v44 : Ref sig .tc := ⟨.hbm, 335, rfl⟩
abbrev main_v45 : Ref sig .tc := ⟨.hbm, 336, rfl⟩
abbrev main_v46 : Ref sig .tc := ⟨.hbm, 337, rfl⟩
abbrev main_v47 : Ref sig .tc := ⟨.hbm, 338, rfl⟩
abbrev main_cst_9 : Ref sig .tc := ⟨.hbm, 339, rfl⟩
abbrev main_v48 : Ref sig .tc := ⟨.hbm, 340, rfl⟩
abbrev main_c_10 : Ref sig .tc := ⟨.hbm, 341, rfl⟩
abbrev main_v49 : Ref sig .tc := ⟨.hbm, 342, rfl⟩
abbrev main_v50 : Ref sig .tc := ⟨.hbm, 343, rfl⟩
abbrev main_c_11 : Ref sig .tc := ⟨.hbm, 344, rfl⟩
abbrev main_v51 : Ref sig .tc := ⟨.hbm, 345, rfl⟩
abbrev main_v52 : Ref sig .tc := ⟨.hbm, 346, rfl⟩
abbrev main_v53 : Ref sig .tc := ⟨.hbm, 347, rfl⟩
abbrev main_c_12 : Ref sig .tc := ⟨.hbm, 348, rfl⟩
abbrev main_v54 : Ref sig .tc := ⟨.hbm, 349, rfl⟩
abbrev main_v55 : Ref sig .tc := ⟨.hbm, 350, rfl⟩
abbrev main_c_13 : Ref sig .tc := ⟨.hbm, 351, rfl⟩
abbrev main_v56 : Ref sig .tc := ⟨.hbm, 352, rfl⟩
abbrev main_v57 : Ref sig .tc := ⟨.hbm, 353, rfl⟩
abbrev main_v58 : Ref sig .tc := ⟨.hbm, 354, rfl⟩
abbrev main_c_14 : Ref sig .tc := ⟨.hbm, 355, rfl⟩
abbrev main_v59 : Ref sig .tc := ⟨.hbm, 356, rfl⟩
abbrev main_v60 : Ref sig .tc := ⟨.hbm, 357, rfl⟩
abbrev main_c_15 : Ref sig .tc := ⟨.hbm, 358, rfl⟩
abbrev main_v61 : Ref sig .tc := ⟨.hbm, 359, rfl⟩
abbrev main_v62 : Ref sig .tc := ⟨.hbm, 360, rfl⟩
abbrev main_v63 : Ref sig .tc := ⟨.hbm, 361, rfl⟩
abbrev main_c_16 : Ref sig .tc := ⟨.hbm, 362, rfl⟩
abbrev main_v64 : Ref sig .tc := ⟨.hbm, 363, rfl⟩
abbrev main_v65 : Ref sig .tc := ⟨.hbm, 364, rfl⟩
abbrev main_c_17 : Ref sig .tc := ⟨.hbm, 365, rfl⟩
abbrev main_v66 : Ref sig .tc := ⟨.hbm, 366, rfl⟩
abbrev main_v67 : Ref sig .tc := ⟨.hbm, 367, rfl⟩
abbrev main_v68 : Ref sig .tc := ⟨.hbm, 368, rfl⟩
abbrev main_v69 : Ref sig .tc := ⟨.hbm, 369, rfl⟩
abbrev main_c_18 : Ref sig .tc := ⟨.hbm, 370, rfl⟩
abbrev main_v70 : Ref sig .tc := ⟨.hbm, 371, rfl⟩
abbrev main_v71 : Ref sig .tc := ⟨.hbm, 372, rfl⟩
abbrev main_v72 : Ref sig .tc := ⟨.hbm, 373, rfl⟩
abbrev main_v73 : Ref sig .tc := ⟨.hbm, 374, rfl⟩
abbrev main_v74 : Ref sig .tc := ⟨.hbm, 375, rfl⟩
abbrev main_v75 : Ref sig .tc := ⟨.hbm, 376, rfl⟩
abbrev main_v76 : Ref sig .tc := ⟨.hbm, 377, rfl⟩
abbrev main_v77 : Ref sig .tc := ⟨.hbm, 378, rfl⟩
abbrev main_v78 : Ref sig .tc := ⟨.hbm, 379, rfl⟩
abbrev main_v79 : Ref sig .tc := ⟨.hbm, 380, rfl⟩
abbrev main_v80 : Ref sig .tc := ⟨.hbm, 381, rfl⟩
abbrev main_v81 : Ref sig .tc := ⟨.hbm, 382, rfl⟩
abbrev main_cst_19 : Ref sig .tc := ⟨.hbm, 383, rfl⟩
abbrev main_v82 : Ref sig .tc := ⟨.hbm, 384, rfl⟩
abbrev main_v83 : Ref sig .tc := ⟨.hbm, 385, rfl⟩
abbrev main_cst_20 : Ref sig .tc := ⟨.hbm, 386, rfl⟩
abbrev main_v84 : Ref sig .tc := ⟨.hbm, 387, rfl⟩
abbrev main_v85 : Ref sig .tc := ⟨.hbm, 388, rfl⟩

abbrev nD : Nat := 1
abbrev τ : Topo := Topo.v7x

variable {F : FTy → Type} [FloatOps F]
-- ==== Proof.Planes.lean ====
/- What a point of the kernel's second call leaves in its block: sixteen depth planes, each a band product of the
   weighted x-ray, and on the two end planes the same less a correction. -/
module

public import proofs.«01_k».proof.Proof.Gen.KernelIdeal.Frame
public import Idealize.ShloMosaic.Lib.Pipeline.ValueKit
public import Idealize.ShloMosaic.Lib.Pipeline.Value
public import Idealize.ShloMosaic.Lib.Pointwise.Reshape
public import Idealize.ShloMosaic.Lib.ValueIdxCore

@[expose] public section

set_option maxRecDepth 16384

noncomputable section

namespace Cert.Splat

open Cert.KernelIdeal Cert.KernelIdeal.Gen
open Idealize.ShloMosaic hiding ix0 ix1 ix2 ix3 ix4 ix5 ix6
open Idealize.ShloMosaic.TcCoe Idealize.ShloMosaic.ValueIdx

variable {F : FTy → Type} [FloatOps F]

/-- Two band products, of rows and of columns. -/
def spreadV (bd : Vec F S128x128 .f32) (x : FVec F S128x128 .f32) : FVec F S128x128 .f32 :=
  matmul dot_S128x128_S128x128_S128x128_1_0_0_1_n_n none
    (matmul dot_S128x128_S128x128_S128x128_1_0_0_1_n_n none bd x (constant S128x128 .f32 0x00000000#32)) bd
    (constant S128x128 .f32 0x00000000#32)

/-- The squared distance of plane `d` to each pixel's plane. -/
def distV (ix : FVec F S128x128 .f32) (d : BitVec 32) : FVec F S128x128 .f32 :=
  mulf (subf (broadcast S128x128 (Scalar.sitofp .f32 d)) ix) (subf (broadcast S128x128 (Scalar.sitofp .f32 d)) ix)

/-- The cubic of a squared distance, zero further than its last root. -/
def cubicV (u : FVec F S128x128 .f32) : FVec F S128x128 .f32 :=
  select (cmpf .ole u (broadcast S128x128 (Scalar.ofBits .f32 0x41180000#32)))
    (addf (mulf (addf (mulf (addf (mulf (k1_pay20 k1_pay14) u) (k1_pay19 k1_pay13 k1_pay14)) u)
      (k1_pay18 k1_pay14 k1_pay15 k1_pay16)) u) (k1_pay17 k1_pay9))
    (broadcast S128x128 (Scalar.ofBits .f32 0x00000000#32))

/-- Depth plane `d`. -/
def planeV (ix xr : FVec F S128x128 .f32) (bd : Vec F S128x128 .f32) (d : BitVec 32) : FVec F S128x128 .f32 :=
  spreadV bd (mulf xr (cubicV (distV ix d)))

/-- The correction's weights: `k1_pay7` over 27 where the pixel's plane is `near`, `k1_pay8` over 27 where it is `next`. -/
def corrV (ix : FVec F S128x128 .f32) (near next : BitVec 32) : FVec F S128x128 .f32 :=
  addf
    (select (cmpf .oeq ix (broadcast S128x128 (Scalar.ofBits .f32 near)))
      (divf k1_pay7 (broadcast S128x128 (Scalar.ofBits .f32 0x41D80000#32))) (broadcast S128x128 (Scalar.ofBits .f32 0x00000000#32)))
    (select (cmpf .oeq ix (broadcast S128x128 (Scalar.ofBits .f32 next)))
      (divf k1_pay8 (broadcast S128x128 (Scalar.ofBits .f32 0x41D80000#32))) (broadcast S128x128 (Scalar.ofBits .f32 0x00000000#32)))

/-- An end plane's correction. -/
def fixV (ix xr : FVec F S128x128 .f32) (bd : Vec F S128x128 .f32) (near next : BitVec 32) : FVec F S128x128 .f32 :=
  spreadV bd (mulf xr (corrV ix near next))

/-- The depth of a block's plane `j` at the depth coordinate `p`. -/
def depth (p j : ℕ) : BitVec 32 := Scalar.addi (Scalar.muli (BitVec.ofNat 32 p) 16#32) (BitVec.ofNat 32 j)

/-- The sixteen planes of a block. -/
def stackV (ix xr : FVec F S128x128 .f32) (bd : Vec F S128x128 .f32) (p : ℕ) : Vec F S1x16x128x128 .f32 :=
  fun y => planeV ix xr bd (depth p (y 1).val) (ix2 (y 2) (y 3))

/-- A plane under two unit axes, read at an index. -/
theorem cast_plane (v : FVec F S128x128 .f32) (x : S1x1x128x128.Idx) :
    shapeCast S1x1x128x128 v shapeCasts_S128x128_S1x1x128x128 x = v (ix2 (x 2) (x 3)) := by
  refine shapeCast_apply v _ x _ ?_
  rw [rowMajor_val4 x 16384 16384 128 rfl rfl rfl, rowMajor_val2 _ 128 rfl]
  have h0 : (x 0).val < 1 := (x 0).isLt
  have h1 : (x 1).val < 1 := (x 1).isLt
  show (x 2).val * 128 + (x 3).val = _
  omega

/-- and back. -/
theorem uncast_plane (v : Vec F S1x1x128x128 .f32) (x : S128x128.Idx) :
    shapeCast S128x128 v shapeCasts_S1x1x128x128_S128x128 x = v (ix4 (0 : Fin 1) (0 : Fin 1) (x 0) (x 1)) := by
  refine shapeCast_apply v _ x _ ?_
  rw [rowMajor_val4 _ 16384 16384 128 rfl rfl rfl, rowMajor_val2 _ 128 rfl]
  show 0 * 16384 + 0 * 16384 + (x 0).val * 128 + (x 1).val = _
  omega

/-- The sixteen planes of a block lie inside it. -/
theorem inb_plane (k : Fin 16) : ∀ a, (![0, k.rev.val, 0, 0] : Fin 4 → ℕ) a + S1x1x128x128.size a ≤ S1x16x128x128.size a := by
  intro a
  have := k.rev.isLt
  match a with
  | ⟨0, _⟩ => show 0 + 1 ≤ 1; omega
  | ⟨1, _⟩ => show k.rev.val + 1 ≤ 16; omega
  | ⟨2, _⟩ => show 0 + 128 ≤ 128; omega
  | ⟨3, _⟩ => show 0 + 128 ≤ 128; omega

/-- The sixteen stores of a block, last first. -/
def stores (ix xr : FVec F S128x128 .f32) (bd : Vec F S128x128 .f32) (p : ℕ) : List (View.Piece (Elt F) S1x16x128x128 .f32) :=
  List.ofFn fun k : Fin 16 => ⟨Rect.unit (s := S1x16x128x128) ![0, k.rev.val, 0, 0] S1x1x128x128.size (inb_plane k),
    shapeCast S1x1x128x128 (planeV ix xr bd (depth p k.rev.val)) shapeCasts_S128x128_S1x1x128x128⟩

/-- They leave the sixteen planes. -/
theorem canon_stores (ix xr : FVec F S128x128 .f32) (bd : Vec F S128x128 .f32) (p : ℕ) (y : S1x16x128x128.Idx) :
    View.canon (stores ix xr bd p) y = stackV ix xr bd p y := by
  have key := View.canon_ofFn_unit_eq_of_forall (Val := Elt F) (S := S1x16x128x128) (e := .f32) (fun k : Fin 16 => ![0, k.rev.val, 0, 0])
    S1x1x128x128.size inb_plane
    (fun k => shapeCast S1x1x128x128 (planeV ix xr bd (depth p k.rev.val)) shapeCasts_S128x128_S1x1x128x128) y
    (stackV ix xr bd p y)
  refine key ?_ ?_ <;> clear key
  · have h1 : (y 1).val < 16 := (y 1).isLt
    refine ⟨Fin.rev ⟨(y 1).val, h1⟩, fun a => ?_⟩
    rw [Fin.rev_rev]
    have h0 : (y 0).val < 1 := (y 0).isLt
    have h2 : (y 2).val < 128 := (y 2).isLt
    have h3 : (y 3).val < 128 := (y 3).isLt
    match a with
    | ⟨0, _⟩ => show 0 ≤ (y 0).val ∧ (y 0).val < 0 + 1; omega
    | ⟨1, _⟩ => show (y 1).val ≤ (y 1).val ∧ (y 1).val < (y 1).val + 1; omega
    | ⟨2, _⟩ => show 0 ≤ (y 2).val ∧ (y 2).val < 0 + 128; omega
    | ⟨3, _⟩ => show 0 ≤ (y 3).val ∧ (y 3).val < 0 + 128; omega
  · intro k x hx
    have e1 : (y 1).val = k.rev.val + (x 1).val := hx 1
    have e2 : (y 2).val = 0 + (x 2).val := hx 2
    have e3 : (y 3).val = 0 + (x 3).val := hx 3
    have l1 : (x 1).val < 1 := (x 1).isLt
    rw [cast_plane]
    unfold stackV
    have f1 : (y 1).val = k.rev.val := by omega
    have f2 : y 2 = x 2 := Fin.ext (by omega)
    have f3 : y 3 = x 3 := Fin.ext (by omega)
    rw [f1, f2, f3]

/-- A block whose plane `j` is its stacked plane less `w`. -/
def lessV (ix xr : FVec F S128x128 .f32) (bd : Vec F S128x128 .f32) (p j : ℕ) (w : FVec F S128x128 .f32) : Vec F S1x16x128x128 .f32 :=
  fun y => if (y 1).val = j then subf (planeV ix xr bd (depth p j)) w (ix2 (y 2) (y 3)) else stackV ix xr bd p y

/-- The sixteen stores, then plane `j` read back, `w` taken off and stored again. -/
theorem canon_less (ix xr : FVec F S128x128 .f32) (bd : Vec F S128x128 .f32) (p j : ℕ) (w : FVec F S128x128 .f32)
    (v : View sig .tc .vmem S1x16x128x128 .f32)
    (inb : ∀ a, (![0, j, 0, 0] : Fin 4 → ℕ) a + S1x1x128x128.size a ≤ S1x16x128x128.size a) (y : S1x16x128x128.Idx) :
    View.canon (⟨Rect.unit (s := S1x16x128x128) ![0, j, 0, 0] S1x1x128x128.size inb,
        shapeCast S1x1x128x128 (subf (shapeCast S128x128 (v.readCov (stores ix xr bd p)
          (Rect.unit (s := S1x16x128x128) ![0, j, 0, 0] S1x1x128x128.size inb).toLoadRect) shapeCasts_S1x1x128x128_S128x128) w)
          shapeCasts_S128x128_S1x1x128x128⟩ :: stores ix xr bd p) y
      = lessV ix xr bd p j w y := by
  unfold lessV
  have h0 : (y 0).val < 1 := (y 0).isLt
  have h2 : (y 2).val < 128 := (y 2).isLt
  have h3 : (y 3).val < 128 := (y 3).isLt
  by_cases hy : (y 1).val = j
  · rw [if_pos hy]
    have e : y = (Rect.unit (s := S1x16x128x128) ![0, j, 0, 0] S1x1x128x128.size inb).emb (ix4 (0 : Fin 1) (0 : Fin 1) (y 2) (y 3)) := by
      funext a
      apply Fin.ext
      match a with
      | ⟨0, _⟩ => show (y 0).val = 0 + 1 * 0; omega
      | ⟨1, _⟩ => show (y 1).val = j + 1 * 0; omega
      | ⟨2, _⟩ => show (y 2).val = 0 + 1 * (y 2).val; omega
      | ⟨3, _⟩ => show (y 3).val = 0 + 1 * (y 3).val; omega
    conv_lhs => rw [e]
    rw [View.canon_cons_emb, cast_plane]
    refine congrArg (fun t => FloatOps.subf t (w (ix2 (y 2) (y 3)))) (a₂ := planeV ix xr bd (depth p j) (ix2 (y 2) (y 3))) ?_
    rw [uncast_plane, View.readCov_eq_canon']
    refine (canon_stores ix xr bd p _).trans ?_
    unfold stackV
    have e1 : ∀ z : S1x1x128x128.Idx, (((Rect.unit (s := S1x16x128x128) ![0, j, 0, 0] S1x1x128x128.size inb).toLoadRect.idx z) 1).val = j + 1 * (z 1).val :=
      fun z => rfl
    have e2 : ∀ z : S1x1x128x128.Idx, (((Rect.unit (s := S1x16x128x128) ![0, j, 0, 0] S1x1x128x128.size inb).toLoadRect.idx z) 2).val = 0 + 1 * (z 2).val :=
      fun z => rfl
    have e3 : ∀ z : S1x1x128x128.Idx, (((Rect.unit (s := S1x16x128x128) ![0, j, 0, 0] S1x1x128x128.size inb).toLoadRect.idx z) 3).val = 0 + 1 * (z 3).val :=
      fun z => rfl
    rw [e1]
    refine congrArg₂ (fun d q => planeV ix xr bd (depth p d) q) rfl ?_
    funext a
    apply Fin.ext
    match a with
    | ⟨0, _⟩ => exact (e2 _).trans (by show 0 + 1 * (y 2).val = (y 2).val; omega)
    | ⟨1, _⟩ => exact (e3 _).trans (by show 0 + 1 * (y 3).val = (y 3).val; omega)
  · rw [if_neg hy, View.canon_cons_of_not_mem, canon_stores]
    intro hm
    obtain ⟨h1, h2⟩ := (Rect.mem_set_unit (inb := inb)).mp hm 1
    have h1' : j ≤ (y 1).val := h1
    have h2' : (y 1).val < j + 1 := h2
    omega

/-- Three zero offsets are the zero offset function. -/
theorem hz3 : (![0, 0, 0] : Fin 3 → Nat) = fun _ => 0 := funext fun a => by fin_cases a <;> rfl
/-- Two zero offsets are the zero offset function. -/
theorem hz2 : (![0, 0] : Fin 2 → Nat) = fun _ => 0 := funext fun a => by fin_cases a <;> rfl

section Cases

variable (c : Dev nD) (i : grid1.Coords) (arg2 : Memref sig .tc .vmem S1x128x128 .f32) (harg2 : arg2.IsWhole)
  (arg3 : Memref sig .tc .vmem S1x128x128 .f32) (harg3 : arg3.IsWhole) (arg4 : Memref sig .tc .vmem S128x128 .f32) (harg4 : arg4.IsWhole)
  (arg5 : Memref sig .tc .vmem S1x16x128x128 .f32) (harg5 : arg5.IsWhole)
  (x0 x1 : Vec F S1x128x128 .f32) (x2 : Vec F S128x128 .f32)

/-- A load of the whole of a staged block reads the block. -/
theorem load3 (arg : Memref sig .tc .vmem S1x128x128 .f32) (h : arg.IsWhole) (x : Vec F S1x128x128 .f32) :
    View.readAt (Elt F) arg.view (Rect.unit (s := S1x128x128) ![0, 0, 0] S1x128x128.size inb_S1x128x128_S1x128x128_0_0_0).toLoadRect (h.unread x) = x := by
  rw [View.readAt_eq_ld, h.read_unread, View.ld_unit_zero hz3]

/-- A read of a whole 128 by 128 block returns its contents. -/
theorem load2 (arg : Memref sig .tc .vmem S128x128 .f32) (h : arg.IsWhole) (x : Vec F S128x128 .f32) :
    View.readAt (Elt F) arg.view (Rect.unit (s := S128x128) ![0, 0] S128x128.size inb_S128x128_S128x128_0_0).toLoadRect (h.unread x) = x := by
  rw [View.readAt_eq_ld, h.read_unread, View.ld_unit_zero hz2]

/-- A middle point of the depth axis leaves its sixteen planes. -/
theorem out_B (hc0 : ¬cond1_0 i) (hc1 : ¬cond1_1 i) :
    out1_B_3 c i arg2 harg2 arg3 harg3 arg4 harg4 arg5 harg5 hc0 hc1 x0 x1 x2
      = stackV (k1_pay5 x1) (k1_pay6 x0) x2 (i 1).val := by
  unfold out1_B_3
  rw [View.read_writes_junk_eq_canon]
  have h : (kernelRun1_B c i arg2 harg2 arg3 harg3 arg4 harg4 arg5 harg5 hc0 hc1 x0 x1 x2).1
      = stores (k1_pay5 (View.readAt (Elt F) arg3.view (Rect.unit (s := S1x128x128) ![0, 0, 0] S1x128x128.size inb_S1x128x128_S1x128x128_0_0_0).toLoadRect (harg3.unread x1)))
          (k1_pay6 (View.readAt (Elt F) arg2.view (Rect.unit (s := S1x128x128) ![0, 0, 0] S1x128x128.size inb_S1x128x128_S1x128x128_0_0_0).toLoadRect (harg2.unread x0)))
          (View.readAt (Elt F) arg4.view (Rect.unit (s := S128x128) ![0, 0] S128x128.size inb_S128x128_S128x128_0_0).toLoadRect (harg4.unread x2))
          (i 1).val := rfl
  rw [h, load3, load3, load2]
  exact funext fun y => canon_stores _ _ _ _ y

/-- The first point leaves its sixteen planes with plane 0 corrected. -/
theorem out_A (hc0 : cond1_0 i) (hc1 : ¬cond1_1 i) :
    out1_A_3 c i arg2 harg2 arg3 harg3 arg4 harg4 arg5 harg5 hc0 hc1 x0 x1 x2
      = lessV (k1_pay5 x1) (k1_pay6 x0) x2 (i 1).val 0 (fixV (k1_pay5 x1) (k1_pay6 x0) x2 0x00000000#32 0x3F800000#32) := by
  unfold out1_A_3
  rw [View.read_writes_junk_eq_canon]
  funext y
  refine Eq.trans ?_ (canon_less (k1_pay5 x1) (k1_pay6 x0) x2 (i 1).val 0 _ arg5.view inb_S1x16x128x128_S1x1x128x128_0_0_0_0 y)
  conv_rhs => rw [← load3 arg3 harg3 x1, ← load3 arg2 harg2 x0, ← load2 arg4 harg4 x2]
  rfl

/-- The last point leaves its sixteen planes with plane 15 corrected. -/
theorem out_C (hc0 : ¬cond1_0 i) (hc1 : cond1_1 i) :
    out1_C_3 c i arg2 harg2 arg3 harg3 arg4 harg4 arg5 harg5 hc0 hc1 x0 x1 x2
      = lessV (k1_pay5 x1) (k1_pay6 x0) x2 (i 1).val 15 (fixV (k1_pay5 x1) (k1_pay6 x0) x2 0x42FE0000#32 0x42FC0000#32) := by
  unfold out1_C_3
  rw [View.read_writes_junk_eq_canon]
  funext y
  refine Eq.trans ?_ (canon_less (k1_pay5 x1) (k1_pay6 x0) x2 (i 1).val 15 _ arg5.view inb_S1x16x128x128_S1x1x128x128_0_15_0_0 y)
  conv_rhs => rw [← load3 arg3 harg3 x1, ← load3 arg2 harg2 x0, ← load2 arg4 harg4 x2]
  rfl

end Cases

end Cert.Splat

end
-- ==== Proof.Arrays.lean ====
/- The kernel's three result arrays as functions of the arrays that their calls read: the resized x-ray and the plane
   indices of the first call, the volume of the second. -/
module

public import proofs.«01_k».proof.Proof.Planes

@[expose] public section

set_option maxRecDepth 16384

noncomputable section

namespace Cert.Splat

open Cert.KernelIdeal Cert.KernelIdeal.Gen
open Idealize.ShloMosaic hiding ix0 ix1 ix2 ix3 ix4 ix5 ix6
open Idealize.ShloMosaic.TcCoe Idealize.ShloMosaic.ValueIdx

variable {F : FTy → Type} [FloatOps F]
variable (V : (c : Dev nD) → (b : Ref sig .tc) → Buf (Elt F) ((c : Thread nD τ).loc b))

/-! ## The first call -/

/-- Image `b` of a batch, under a unit axis. -/
def image (x : Vec F S8x512x512 .f32) (b : Fin 8) : Vec F S1x512x512 .f32 := fun j => x (ix3 b (j 1) (j 2))

/-- The resized x-rays. -/
def resizedV (x : Vec F S8x512x512 .f32) (wh : Vec F S128x512 .f32) (wwt : Vec F S512x128 .f32) : Vec F S8x128x128 .f32 :=
  fun i => k0_pay4 wh wwt (image x (i 0)) (ix3 (0 : Fin 1) (i 1) (i 2))

/-- The plane indices. -/
def indexV (x : Vec F S8x512x512 .f32) (wh : Vec F S128x512 .f32) (wwt : Vec F S512x128 .f32) : Vec F S8x128x128 .f32 :=
  fun i => k0_pay3 wh wwt (image x (i 0)) (ix3 (0 : Fin 1) (i 1) (i 2))

/-- What a step of the first launch writes as the resized x-ray, as a function of its blocks. -/
theorem out0_4_eq (x0 x1 : Vec F S1x512x512 .f32) (x2 : Vec F S128x512 .f32) (x3 : Vec F S512x128 .f32) :
    out0_4 x0 x1 x2 x3 = k0_pay4 x2 x3 x1 := by
  unfold out0_4
  rw [View.canon_unit_zero hz3, View.ld_unit_zero hz2, View.ld_unit_zero hz2, View.ld_unit_zero hz3]

/-- What a step of the first launch writes as the depth bins, as a function of its blocks. -/
theorem out0_5_eq (x0 x1 : Vec F S1x512x512 .f32) (x2 : Vec F S128x512 .f32) (x3 : Vec F S512x128 .f32) :
    out0_5 x0 x1 x2 x3 = k0_pay3 x2 x3 x0 := by
  unfold out0_5
  rw [View.canon_unit_zero hz3, View.ld_unit_zero hz2, View.ld_unit_zero hz2, View.ld_unit_zero hz3]

/-- The block that each window of the first call shows at a point. -/
theorem at0_0 : ∀ t : Fin cfg0.N, win0_0.index t 0 = t.val ∧ win0_0.index t 1 = 0 ∧ win0_0.index t 2 = 0 :=
  (by decide +kernel : ∀ t : Fin grid0.N, _)
/-- At step `t` of the first launch the x-ray block is image `t`. -/
theorem at0_1 : ∀ t : Fin cfg0.N, win0_1.index t 0 = t.val ∧ win0_1.index t 1 = 0 ∧ win0_1.index t 2 = 0 :=
  (by decide +kernel : ∀ t : Fin grid0.N, _)
/-- The row weights are one block, the same at every step of the first launch. -/
theorem at0_2 : ∀ t : Fin cfg0.N, win0_2.index t 0 = 0 ∧ win0_2.index t 1 = 0 := (by decide +kernel : ∀ t : Fin grid0.N, _)
/-- The column weights are one block, the same at every step of the first launch. -/
theorem at0_3 : ∀ t : Fin cfg0.N, win0_3.index t 0 = 0 ∧ win0_3.index t 1 = 0 := (by decide +kernel : ∀ t : Fin grid0.N, _)
/-- Step `t` of the first launch writes image `t` of the resized x-rays. -/
theorem at0_4 : ∀ t : Fin cfg0.N, win0_4.index t 0 = t.val ∧ win0_4.index t 1 = 0 ∧ win0_4.index t 2 = 0 :=
  (by decide +kernel : ∀ t : Fin grid0.N, _)
/-- Step `t` of the first launch writes image `t` of the depth bins. -/
theorem at0_5 : ∀ t : Fin cfg0.N, win0_5.index t 0 = t.val ∧ win0_5.index t 1 = 0 ∧ win0_5.index t 2 = 0 :=
  (by decide +kernel : ∀ t : Fin grid0.N, _)

/-- A point of the first call as an image's number. -/
def img (t : Fin cfg0.N) : Fin 8 := ⟨t.val, lt_of_lt_of_eq t.isLt (show cfg0.N = 8 from N_0)⟩

/-- The depth block read at step `t` is image `t` of the depth maps. -/
theorem iblk0_0 (c : Dev nD) (t : Fin cfg0.N) : iblk0 V c 0 t = image (V c main_v0) (img t) := by
  obtain ⟨e0, e1, e2⟩ := at0_0 t
  funext j
  show V c main_v0 (((cfg0.win 0).blk t).view.emb j) = V c main_v0 (ix3 (img t) (j 1) (j 2))
  refine congrArg (V c main_v0) (funext fun a => Fin.ext ?_)
  have h0 : (j 0).val < 1 := (j 0).isLt
  match a with
  | ⟨0, _⟩ => show win0_0.index t 0 * 1 + 1 * (j 0).val = t.val; omega
  | ⟨1, _⟩ => show win0_0.index t 1 * 512 + 1 * (j 1).val = (j 1).val; omega
  | ⟨2, _⟩ => show win0_0.index t 2 * 512 + 1 * (j 2).val = (j 2).val; omega

/-- The x-ray block read at step `t` is image `t` of the x-rays. -/
theorem iblk0_1 (c : Dev nD) (t : Fin cfg0.N) : iblk0 V c 1 t = image (V c main_v1) (img t) := by
  obtain ⟨e0, e1, e2⟩ := at0_1 t
  funext j
  show V c main_v1 (((cfg0.win 1).blk t).view.emb j) = V c main_v1 (ix3 (img t) (j 1) (j 2))
  refine congrArg (V c main_v1) (funext fun a => Fin.ext ?_)
  have h0 : (j 0).val < 1 := (j 0).isLt
  match a with
  | ⟨0, _⟩ => show win0_1.index t 0 * 1 + 1 * (j 0).val = t.val; omega
  | ⟨1, _⟩ => show win0_1.index t 1 * 512 + 1 * (j 1).val = (j 1).val; omega
  | ⟨2, _⟩ => show win0_1.index t 2 * 512 + 1 * (j 2).val = (j 2).val; omega

/-- The row-weight block read at step `t` is the whole array of row weights. -/
theorem iblk0_2 (c : Dev nD) (t : Fin cfg0.N) : iblk0 V c 2 t = V c main_v30 := by
  obtain ⟨e0, e1⟩ := at0_2 t
  funext j
  show V c main_v30 (((cfg0.win 2).blk t).view.emb j) = V c main_v30 j
  refine congrArg (V c main_v30) (funext fun a => Fin.ext ?_)
  match a with
  | ⟨0, _⟩ => show win0_2.index t 0 * 128 + 1 * (j 0).val = (j 0).val; omega
  | ⟨1, _⟩ => show win0_2.index t 1 * 512 + 1 * (j 1).val = (j 1).val; omega

/-- The column-weight block read at step `t` is the whole array of column weights. -/
theorem iblk0_3 (c : Dev nD) (t : Fin cfg0.N) : iblk0 V c 3 t = V c main_v31 := by
  obtain ⟨e0, e1⟩ := at0_3 t
  funext j
  show V c main_v31 (((cfg0.win 3).blk t).view.emb j) = V c main_v31 j
  refine congrArg (V c main_v31) (funext fun a => Fin.ext ?_)
  match a with
  | ⟨0, _⟩ => show win0_3.index t 0 * 512 + 1 * (j 0).val = (j 0).val; omega
  | ⟨1, _⟩ => show win0_3.index t 1 * 128 + 1 * (j 1).val = (j 1).val; omega

/-- Where a block of an output of the first call lands in its array. -/
theorem emb0_4 (t : Fin cfg0.N) (j : S1x128x128.Idx) : ((cfg0.win 4).blk t).view.emb j = ix3 (img t) (j 1) (j 2) := by
  obtain ⟨e0, e1, e2⟩ := at0_4 t
  have h0 : (j 0).val < 1 := (j 0).isLt
  funext a
  apply Fin.ext
  match a with
  | ⟨0, _⟩ => show win0_4.index t 0 * 1 + 1 * (j 0).val = t.val; omega
  | ⟨1, _⟩ => show win0_4.index t 1 * 128 + 1 * (j 1).val = (j 1).val; omega
  | ⟨2, _⟩ => show win0_4.index t 2 * 128 + 1 * (j 2).val = (j 2).val; omega

/-- Where an entry of the bin block of step `t` lies in the array of bins. -/
theorem emb0_5 (t : Fin cfg0.N) (j : S1x128x128.Idx) : ((cfg0.win 5).blk t).view.emb j = ix3 (img t) (j 1) (j 2) := by
  obtain ⟨e0, e1, e2⟩ := at0_5 t
  have h0 : (j 0).val < 1 := (j 0).isLt
  funext a
  apply Fin.ext
  match a with
  | ⟨0, _⟩ => show win0_5.index t 0 * 1 + 1 * (j 0).val = t.val; omega
  | ⟨1, _⟩ => show win0_5.index t 1 * 128 + 1 * (j 1).val = (j 1).val; omega
  | ⟨2, _⟩ => show win0_5.index t 2 * 128 + 1 * (j 2).val = (j 2).val; omega

/-- An index of a block of one image by its last two coordinates. -/
theorem unit_ix3 (j : S1x128x128.Idx) : ix3 (0 : Fin 1) (j 1) (j 2) = j := by
  have h0 : (j 0).val < 1 := (j 0).isLt
  funext a
  apply Fin.ext
  match a with
  | ⟨0, _⟩ => show 0 = (j 0).val; omega
  | ⟨1, _⟩ => rfl
  | ⟨2, _⟩ => rfl

/-- After the first launch the array of resized x-rays holds every image resized. -/
theorem final0_4 (c : Dev nD) : (dat0 V c).arrAt 4 cfg0.N = resizedV (V c main_v1) (V c main_v30) (V c main_v31) := by
  refine (dat0 V c).arrAt_eq_of_cover 4 (resizedV (V c main_v1) (V c main_v30) (V c main_v31)) (fun t _ => ?_) (fun i => ?_)
  · show (cfg0.win 4).cut (grid0.coords t) ((dat0 V c).after 4 t) = _
    rw [after0_4, out0_4_eq, iblk0_1, iblk0_2, iblk0_3]
    funext j
    show k0_pay4 (V c main_v30) (V c main_v31) (image (V c main_v1) (img t)) j = resizedV _ _ _ (((cfg0.win 4).blk t).view.emb j)
    rw [emb0_4]
    unfold resizedV
    exact congrArg (k0_pay4 (V c main_v30) (V c main_v31) (image (V c main_v1) (img t))) (unit_ix3 j).symm
  · have hi : (i 0).val < 8 := (i 0).isLt
    refine ⟨⟨(i 0).val, lt_of_lt_of_eq hi (show 8 = cfg0.N from N_0.symm)⟩, flush0_4 _, ?_⟩
    have h := ((cfg0.win 4).blk (⟨(i 0).val, lt_of_lt_of_eq hi (show 8 = cfg0.N from N_0.symm)⟩ : Fin cfg0.N)).view.emb_mem_set
      (ix3 (0 : Fin 1) (i 1) (i 2))
    rw [emb0_4] at h
    have e : i = ix3 (img (⟨(i 0).val, lt_of_lt_of_eq hi (show 8 = cfg0.N from N_0.symm)⟩ : Fin cfg0.N)) (i 1) (i 2) := ValueIdx.eq_ix3 i
    exact Eq.mpr (congrArg (fun z => z ∈ ((cfg0.win 4).blk (⟨(i 0).val, lt_of_lt_of_eq hi (show 8 = cfg0.N from N_0.symm)⟩ : Fin cfg0.N)).view.set) e) h

/-- After the first launch the array of bins holds the bin of every resized depth. -/
theorem final0_5 (c : Dev nD) : (dat0 V c).arrAt 5 cfg0.N = indexV (V c main_v0) (V c main_v30) (V c main_v31) := by
  refine (dat0 V c).arrAt_eq_of_cover 5 (indexV (V c main_v0) (V c main_v30) (V c main_v31)) (fun t _ => ?_) (fun i => ?_)
  · show (cfg0.win 5).cut (grid0.coords t) ((dat0 V c).after 5 t) = _
    rw [after0_5, out0_5_eq, iblk0_0, iblk0_2, iblk0_3]
    funext j
    show k0_pay3 (V c main_v30) (V c main_v31) (image (V c main_v0) (img t)) j = indexV _ _ _ (((cfg0.win 5).blk t).view.emb j)
    rw [emb0_5]
    unfold indexV
    exact congrArg (k0_pay3 (V c main_v30) (V c main_v31) (image (V c main_v0) (img t))) (unit_ix3 j).symm
  · have hi : (i 0).val < 8 := (i 0).isLt
    refine ⟨⟨(i 0).val, lt_of_lt_of_eq hi (show 8 = cfg0.N from N_0.symm)⟩, flush0_5 _, ?_⟩
    have h := ((cfg0.win 5).blk (⟨(i 0).val, lt_of_lt_of_eq hi (show 8 = cfg0.N from N_0.symm)⟩ : Fin cfg0.N)).view.emb_mem_set
      (ix3 (0 : Fin 1) (i 1) (i 2))
    rw [emb0_5] at h
    have e : i = ix3 (img (⟨(i 0).val, lt_of_lt_of_eq hi (show 8 = cfg0.N from N_0.symm)⟩ : Fin cfg0.N)) (i 1) (i 2) := ValueIdx.eq_ix3 i
    exact Eq.mpr (congrArg (fun z => z ∈ ((cfg0.win 5).blk (⟨(i 0).val, lt_of_lt_of_eq hi (show 8 = cfg0.N from N_0.symm)⟩ : Fin cfg0.N)).view.set) e) h

/-! ## The second call -/

/-- Image `b` of a resized batch. -/
def slice (x : Vec F S8x128x128 .f32) (b : Fin 8) : Vec F S1x128x128 .f32 := fun j => x (ix3 b (j 1) (j 2))

/-- The block of image `b` at the depth coordinate `p`: on the first coordinate plane 0 is corrected, on the last plane 15. -/
def blockV (xr ix : Vec F S8x128x128 .f32) (bd : Vec F S128x128 .f32) (b : Fin 8) (p : ℕ) : Vec F S1x16x128x128 .f32 :=
  if p = 0 then lessV (k1_pay5 (slice ix b)) (k1_pay6 (slice xr b)) bd p 0
      (fixV (k1_pay5 (slice ix b)) (k1_pay6 (slice xr b)) bd 0x00000000#32 0x3F800000#32)
  else if p = 7 then lessV (k1_pay5 (slice ix b)) (k1_pay6 (slice xr b)) bd p 15
      (fixV (k1_pay5 (slice ix b)) (k1_pay6 (slice xr b)) bd 0x42FE0000#32 0x42FC0000#32)
  else stackV (k1_pay5 (slice ix b)) (k1_pay6 (slice xr b)) bd p

/-- The volume. -/
def volumeV (xr ix : Vec F S8x128x128 .f32) (bd : Vec F S128x128 .f32) : Vec F S8x128x128x128 .f32 :=
  fun i => blockV xr ix bd (i 0) ((i 1).val / 16) (ix4 (0 : Fin 1) (⟨(i 1).val % 16, Nat.mod_lt _ (by decide)⟩ : Fin 16) (i 2) (i 3))

/-- At step `t` of the second launch the resized x-ray block is image `t / 8`. -/
theorem at1_0 : ∀ t : Fin cfg1.N, win1_0.index t 0 = t.val / 8 ∧ win1_0.index t 1 = 0 ∧ win1_0.index t 2 = 0 :=
  (by decide +kernel : ∀ t : Fin grid1.N, _)
/-- At step `t` of the second launch the bin block is image `t / 8`. -/
theorem at1_1 : ∀ t : Fin cfg1.N, win1_1.index t 0 = t.val / 8 ∧ win1_1.index t 1 = 0 ∧ win1_1.index t 2 = 0 :=
  (by decide +kernel : ∀ t : Fin grid1.N, _)
/-- The band matrix is one block, the same at every step of the second launch. -/
theorem at1_2 : ∀ t : Fin cfg1.N, win1_2.index t 0 = 0 ∧ win1_2.index t 1 = 0 := (by decide +kernel : ∀ t : Fin grid1.N, _)
/-- Step `t` of the second launch writes the sixteen planes `t % 8` of image `t / 8`. -/
theorem at1_3 : ∀ t : Fin cfg1.N, win1_3.index t 0 = t.val / 8 ∧ win1_3.index t 1 = t.val % 8 ∧ win1_3.index t 2 = 0 ∧ win1_3.index t 3 = 0 :=
  (by decide +kernel : ∀ t : Fin grid1.N, _)
/-- A point's depth coordinate. -/
theorem coord1 : ∀ t : Fin cfg1.N, (grid1.coords t 1).val = t.val % 8 := (by decide +kernel : ∀ t : Fin grid1.N, _)

/-- The second launch has 64 steps. -/
theorem lt1 (t : Fin cfg1.N) : t.val < 64 := lt_of_lt_of_eq t.isLt (show cfg1.N = 64 from N_1)

/-- A point of the second call's image. -/
def img1 (t : Fin cfg1.N) : Fin 8 := ⟨t.val / 8, by have := lt1 t; omega⟩

/-- The resized x-ray block read at step `t` is image `t / 8`. -/
theorem iblk1_0 (c : Dev nD) (t : Fin cfg1.N) : iblk1 V c 0 t = slice (V c main_v32_0) (img1 t) := by
  obtain ⟨e0, e1, e2⟩ := at1_0 t
  funext j
  show V c main_v32_0 (((cfg1.win 0).blk t).view.emb j) = V c main_v32_0 (ix3 (img1 t) (j 1) (j 2))
  refine congrArg (V c main_v32_0) (funext fun a => Fin.ext ?_)
  have h0 : (j 0).val < 1 := (j 0).isLt
  match a with
  | ⟨0, _⟩ => show win1_0.index t 0 * 1 + 1 * (j 0).val = t.val / 8; omega
  | ⟨1, _⟩ => show win1_0.index t 1 * 128 + 1 * (j 1).val = (j 1).val; omega
  | ⟨2, _⟩ => show win1_0.index t 2 * 128 + 1 * (j 2).val = (j 2).val; omega

/-- The bin block read at step `t` is image `t / 8`. -/
theorem iblk1_1 (c : Dev nD) (t : Fin cfg1.N) : iblk1 V c 1 t = slice (V c main_v32_1) (img1 t) := by
  obtain ⟨e0, e1, e2⟩ := at1_1 t
  funext j
  show V c main_v32_1 (((cfg1.win 1).blk t).view.emb j) = V c main_v32_1 (ix3 (img1 t) (j 1) (j 2))
  refine congrArg (V c main_v32_1) (funext fun a => Fin.ext ?_)
  have h0 : (j 0).val < 1 := (j 0).isLt
  match a with
  | ⟨0, _⟩ => show win1_1.index t 0 * 1 + 1 * (j 0).val = t.val / 8; omega
  | ⟨1, _⟩ => show win1_1.index t 1 * 128 + 1 * (j 1).val = (j 1).val; omega
  | ⟨2, _⟩ => show win1_1.index t 2 * 128 + 1 * (j 2).val = (j 2).val; omega

/-- The band block read at step `t` is the whole band matrix. -/
theorem iblk1_2 (c : Dev nD) (t : Fin cfg1.N) : iblk1 V c 2 t = V c main_cst := by
  obtain ⟨e0, e1⟩ := at1_2 t
  funext j
  show V c main_cst (((cfg1.win 2).blk t).view.emb j) = V c main_cst j
  refine congrArg (V c main_cst) (funext fun a => Fin.ext ?_)
  match a with
  | ⟨0, _⟩ => show win1_2.index t 0 * 128 + 1 * (j 0).val = (j 0).val; omega
  | ⟨1, _⟩ => show win1_2.index t 1 * 128 + 1 * (j 1).val = (j 1).val; omega

/-- What a point of the second call leaves: its block. -/
theorem after1 (c : Dev nD) (t : Fin cfg1.N) :
    outsAt1 V c t.val t.isLt = blockV (V c main_v32_0) (V c main_v32_1) (V c main_cst) (img1 t) (t.val % 8) := by
  unfold blockV
  by_cases h0 : t.val % 8 = 0
  · have h1 : ¬ t.val % 8 = 7 := by omega
    rw [outsAt1_A V c t h0 h1, out_A, iblk1_0, iblk1_1, iblk1_2, coord1, if_pos h0]
  · rw [if_neg h0]
    by_cases h1 : t.val % 8 = 7
    · rw [outsAt1_C V c t h0 h1, out_C, iblk1_0, iblk1_1, iblk1_2, coord1, if_pos h1]
    · rw [outsAt1_B V c t h0 h1, out_B, iblk1_0, iblk1_1, iblk1_2, coord1, if_neg h1]

/-- Where a block lands in the volume. -/
theorem emb1_3 (t : Fin cfg1.N) (j : S1x16x128x128.Idx) :
    ((cfg1.win 3).blk t).view.emb j
      = ix4 (img1 t) (⟨t.val % 8 * 16 + (j 1).val, by have : (j 1).val < 16 := (j 1).isLt; omega⟩ : Fin 128) (j 2) (j 3) := by
  obtain ⟨e0, e1, e2, e3⟩ := at1_3 t
  have h0 : (j 0).val < 1 := (j 0).isLt
  funext a
  apply Fin.ext
  match a with
  | ⟨0, _⟩ => show win1_3.index t 0 * 1 + 1 * (j 0).val = t.val / 8; omega
  | ⟨1, _⟩ => show win1_3.index t 1 * 16 + 1 * (j 1).val = t.val % 8 * 16 + (j 1).val; omega
  | ⟨2, _⟩ => show win1_3.index t 2 * 128 + 1 * (j 2).val = (j 2).val; omega
  | ⟨3, _⟩ => show win1_3.index t 3 * 128 + 1 * (j 3).val = (j 3).val; omega

/-- After the second launch the volume holds every plane of every image. -/
theorem final1_3 (c : Dev nD) : (dat1 V c).arrAt 3 cfg1.N = volumeV (V c main_v32_0) (V c main_v32_1) (V c main_cst) := by
  refine (dat1 V c).arrAt_eq_of_cover 3 (volumeV (V c main_v32_0) (V c main_v32_1) (V c main_cst)) (fun t _ => ?_) (fun i => ?_)
  · show (cfg1.win 3).cut (grid1.coords t) ((dat1 V c).after 3 t) = _
    rw [after1_3, after1]
    funext j
    show blockV (V c main_v32_0) (V c main_v32_1) (V c main_cst) (img1 t) (t.val % 8) j
      = volumeV _ _ _ (((cfg1.win 3).blk t).view.emb j)
    rw [emb1_3]
    unfold volumeV
    have hj : (j 1).val < 16 := (j 1).isLt
    have h0 : (j 0).val < 1 := (j 0).isLt
    have hd : (t.val % 8 * 16 + (j 1).val) / 16 = t.val % 8 := by omega
    show _ = blockV _ _ _ (img1 t) ((t.val % 8 * 16 + (j 1).val) / 16)
      (ix4 (0 : Fin 1) (⟨(t.val % 8 * 16 + (j 1).val) % 16, _⟩ : Fin 16) (j 2) (j 3))
    rw [hd]
    refine congrArg _ (funext fun a => Fin.ext ?_)
    match a with
    | ⟨0, _⟩ => show (j 0).val = 0; omega
    | ⟨1, _⟩ => show (j 1).val = (t.val % 8 * 16 + (j 1).val) % 16; omega
    | ⟨2, _⟩ => rfl
    | ⟨3, _⟩ => rfl
  · have hi : (i 0).val < 8 := (i 0).isLt
    have hi1 : (i 1).val < 128 := (i 1).isLt
    have hN : 64 = cfg1.N := N_1.symm
    have ht : (i 0).val * 8 + (i 1).val / 16 < 64 := by omega
    refine ⟨⟨(i 0).val * 8 + (i 1).val / 16, lt_of_lt_of_eq ht hN⟩, flush1_3 _, ?_⟩
    have h := ((cfg1.win 3).blk (⟨(i 0).val * 8 + (i 1).val / 16, lt_of_lt_of_eq ht hN⟩ : Fin cfg1.N)).view.emb_mem_set
      (ix4 (0 : Fin 1) (⟨(i 1).val % 16, Nat.mod_lt _ (by decide)⟩ : Fin 16) (i 2) (i 3))
    rw [emb1_3] at h
    have e : i = ix4 (img1 (⟨(i 0).val * 8 + (i 1).val / 16, lt_of_lt_of_eq ht hN⟩ : Fin cfg1.N))
        (⟨((i 0).val * 8 + (i 1).val / 16) % 8 * 16 + (i 1).val % 16, by omega⟩ : Fin 128) (i 2) (i 3) := by
      funext a
      apply Fin.ext
      match a with
      | ⟨0, _⟩ => show (i 0).val = ((i 0).val * 8 + (i 1).val / 16) / 8; omega
      | ⟨1, _⟩ => show (i 1).val = ((i 0).val * 8 + (i 1).val / 16) % 8 * 16 + (i 1).val % 16; omega
      | ⟨2, _⟩ => rfl
      | ⟨3, _⟩ => rfl
    exact Eq.mpr (congrArg (fun z => z ∈ ((cfg1.win 3).blk (⟨(i 0).val * 8 + (i 1).val / 16, lt_of_lt_of_eq ht hN⟩ : Fin cfg1.N)).view.set) e) h

end Cert.Splat

end
-- ==== Proof.Run.lean ====
/- The run of the kernel with its result array named: the contents that the generated boundaries give it (the host prefix,
   the two launches, the last reshape), and both arguments as launched. -/
module

public import proofs.«01_k».proof.Proof.Gen.KernelIdeal.Frame

@[expose] public section

noncomputable section

namespace Cert.Splat

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every run ends with the result array at the last boundary's contents and both arguments as launched. -/
theorem run_value : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v34 (by decide)),
       (h c _ (mem_uc main_arg0 (by decide))).trans (W6_main_arg0 m ρ c),
       (h c _ (mem_uc main_arg1 (by decide))).trans (W6_main_arg1 m ρ c)⟩)

end Cert.Splat

end
-- ==== Proof.Weights.lean ====
/- The extended reals that both programs compute with: the constants, the resize weight of a row and the plane of a
   depth. -/
module

public import Idealize.ShloMosaic.Lib.IdealHost
public import Mathlib.Algebra.Order.BigOperators.Group.Finset
public import Mathlib.Tactic.NormNum
public import Mathlib.Tactic.Linarith
public import Mathlib.Tactic.Ring

@[expose] public section

noncomputable section

namespace Cert.Splat

open Idealize.ShloMosaic

/-! ## Constants -/

/-- This word denotes 1/2. -/
theorem word_half : Ideal.ofBits .f32 0x3F000000#32 = ((1 / 2 : ℝ) : EReal) := by
  simp [Ideal.ofBits, Ideal.ieee, -EReal.coe_mul]; norm_num
/-- This word denotes -1/2. -/
theorem word_neg_half : Ideal.ofBits .f32 0xBF000000#32 = ((-(1 / 2) : ℝ) : EReal) := by
  simp [Ideal.ofBits, Ideal.ieee, -EReal.coe_mul, -EReal.coe_neg]; norm_num
/-- This word denotes -2. -/
theorem word_neg_two : Ideal.ofBits .f32 0xC0000000#32 = ((-2 : ℝ) : EReal) := by
  simp [Ideal.ofBits, Ideal.ieee, -EReal.coe_mul, -EReal.coe_neg]; norm_num
/-- This word denotes 1. -/
theorem word_one : Ideal.ofBits .f32 0x3F800000#32 = ((1 : ℝ) : EReal) := by
  simp [Ideal.ofBits, Ideal.ieee, -EReal.coe_mul]; norm_num
/-- This word denotes 0. -/
theorem word_zero : Ideal.ofBits .f32 0x00000000#32 = ((0 : ℝ) : EReal) := by
  simp [Ideal.ofBits, Ideal.ieee]
/-- This word denotes 2. -/
theorem word_two : Ideal.ofBits .f32 0x40000000#32 = ((2 : ℝ) : EReal) := by
  simp [Ideal.ofBits, Ideal.ieee, -EReal.coe_mul]; norm_num
/-- This word denotes 3. -/
theorem word_three : Ideal.ofBits .f32 0x40400000#32 = ((3 : ℝ) : EReal) := by
  simp [Ideal.ofBits, Ideal.ieee, -EReal.coe_mul]; norm_num
/-- This word denotes 4. -/
theorem word_four : Ideal.ofBits .f32 0x40800000#32 = ((4 : ℝ) : EReal) := by
  simp [Ideal.ofBits, Ideal.ieee, -EReal.coe_mul]; norm_num
/-- This word denotes 5. -/
theorem word_five : Ideal.ofBits .f32 0x40A00000#32 = ((5 : ℝ) : EReal) := by
  simp [Ideal.ofBits, Ideal.ieee, -EReal.coe_mul]; norm_num
/-- This word denotes 8. -/
theorem word_eight : Ideal.ofBits .f32 0x41000000#32 = ((8 : ℝ) : EReal) := by
  simp [Ideal.ofBits, Ideal.ieee, -EReal.coe_mul]; norm_num
/-- This word denotes 9. -/
theorem word_nine : Ideal.ofBits .f32 0x41100000#32 = ((9 : ℝ) : EReal) := by
  simp [Ideal.ofBits, Ideal.ieee, -EReal.coe_mul]; norm_num
/-- This word denotes 9.5. -/
theorem word_cut : Ideal.ofBits .f32 0x41180000#32 = ((19 / 2 : ℝ) : EReal) := by
  simp [Ideal.ofBits, Ideal.ieee, -EReal.coe_mul]; norm_num
/-- This word denotes 27. -/
theorem word_27 : Ideal.ofBits .f32 0x41D80000#32 = ((27 : ℝ) : EReal) := by
  simp [Ideal.ofBits, Ideal.ieee, -EReal.coe_mul]; norm_num
/-- This word denotes 100. -/
theorem word_100 : Ideal.ofBits .f32 0x42C80000#32 = ((100 : ℝ) : EReal) := by
  simp [Ideal.ofBits, Ideal.ieee, -EReal.coe_mul]; norm_num
/-- This word denotes 126. -/
theorem word_126 : Ideal.ofBits .f32 0x42FC0000#32 = ((126 : ℝ) : EReal) := by
  simp [Ideal.ofBits, Ideal.ieee, -EReal.coe_mul]; norm_num
/-- This word denotes 127. -/
theorem word_127 : Ideal.ofBits .f32 0x42FE0000#32 = ((127 : ℝ) : EReal) := by
  simp [Ideal.ofBits, Ideal.ieee, -EReal.coe_mul]; norm_num
/-- This word denotes 511.5. -/
theorem word_edge : Ideal.ofBits .f32 0x43FFC000#32 = ((1023 / 2 : ℝ) : EReal) := by
  simp [Ideal.ofBits, Ideal.ieee, -EReal.coe_mul]; norm_num
/-- The kernel's guard is below every column's total. -/
theorem word_guard : Ideal.ofBits .f32 0x322BCC77#32 < ((7 / 8 : ℝ) : EReal) := by
  have e : Ideal.ofBits .f32 0x322BCC77#32 = (((11258999 : ℝ) / 2 ^ 50 : ℝ) : EReal) := by
    simp [Ideal.ofBits, Ideal.ieee, -EReal.coe_mul]; norm_num
  rw [e]; exact EReal.coe_lt_coe_iff.mpr (by norm_num)
/-- and so is the reference's. -/
theorem word_guard' : Ideal.ofBits .f32 0x38FA0000#32 < ((7 / 8 : ℝ) : EReal) := by
  have e : Ideal.ofBits .f32 0x38FA0000#32 = (((125 : ℝ) / 2 ^ 20 : ℝ) : EReal) := by
    simp [Ideal.ofBits, Ideal.ieee, -EReal.coe_mul]; norm_num
  rw [e]; exact EReal.coe_lt_coe_iff.mpr (by norm_num)

/-! ## Operations on reals -/

/-- The larger of two reals, taken in the extended reals. -/
theorem coe_max' (a b : ℝ) : max (a : EReal) b = ((max a b : ℝ) : EReal) := (EReal.coe_strictMono.monotone.map_max).symm
/-- The smaller of two reals, taken in the extended reals. -/
theorem coe_min' (a b : ℝ) : min (a : EReal) b = ((min a b : ℝ) : EReal) := (EReal.coe_strictMono.monotone.map_min).symm
/-- The absolute value of a real, taken in the extended reals. -/
theorem coe_abs' (a : ℝ) : max (a : EReal) (-a) = ((|a| : ℝ) : EReal) := by
  rw [← EReal.coe_neg, coe_max']; rfl
/-- The quotient of a real by a real other than zero, taken in the extended reals. -/
theorem coe_div' (a : ℝ) {b : ℝ} (h : b ≠ 0) : Ideal.div (a : EReal) b = ((a / b : ℝ) : EReal) := by
  rw [Ideal.div_coe h, ← EReal.coe_mul, mul_one_div]
/-- A sum of reals, taken in the extended reals. -/
theorem coe_sum' {n : ℕ} (f : Fin n → ℝ) : ∑ i, ((f i : ℝ) : EReal) = ((∑ i, f i : ℝ) : EReal) :=
  (map_sum (⟨⟨fun x : ℝ => (x : EReal), EReal.coe_zero⟩, EReal.coe_add⟩ : ℝ →+ EReal) f Finset.univ).symm
/-- A small count as a word, read as a signed integer. -/
theorem word_nat (n : ℕ) (h : n < 2 ^ 31) : (((BitVec.ofNat 32 n).toInt : ℝ) : EReal) = ((n : ℝ) : EReal) := by
  have e : (BitVec.ofNat 32 n).toInt = (n : ℤ) := by
    rw [BitVec.toInt_eq_toNat_cond, BitVec.toNat_ofNat]
    split <;> omega
  rw [e]; norm_cast

/-! ## Resize weights -/

/-- The triangle weight of input row `i` for output row `o`, before it is divided by the row's total. -/
def wgt (i o : ℕ) : ℝ := max 0 (1 - |(((o : ℝ) + 1 / 2) * 4 - 1 / 2) - i| / 4)
/-- The total of an output row's weights. -/
def tot (o : ℕ) : ℝ := ∑ i : Fin 512, wgt i o
/-- The weight of input row `i` for output row `o`. -/
def share (i o : ℕ) : ℝ := wgt i o / tot o

/-- Every total is at least 7/8. -/
theorem tot_ge (o : ℕ) (h : o < 128) : 7 / 8 ≤ tot o := by
  have h1 : wgt (⟨4 * o + 1, by omega⟩ : Fin 512).val o ≤ tot o :=
    Finset.single_le_sum (f := fun i : Fin 512 => wgt i o) (fun i _ => le_max_left _ _) (Finset.mem_univ _)
  refine le_trans ?_ h1
  refine le_trans ?_ (le_max_right _ _)
  have e : (((o : ℝ) + 1 / 2) * 4 - 1 / 2) - ((4 * o + 1 : ℕ) : ℝ) = 1 / 2 := by push_cast; ring
  show 7 / 8 ≤ 1 - |(((o : ℝ) + 1 / 2) * 4 - 1 / 2) - ((4 * o + 1 : ℕ) : ℝ)| / 4
  rw [e, abs_of_pos (by norm_num)]
  norm_num

/-- No total is zero. -/
theorem tot_ne (o : ℕ) (h : o < 128) : tot o ≠ 0 := by have := tot_ge o h; linarith

/-- The middle of output row `o` in input rows. -/
theorem middle_eq (o : ℕ) : (((o : ℝ) : EReal) + ((1 / 2 : ℝ) : EReal)) * ((4 : ℝ) : EReal) - ((1 / 2 : ℝ) : EReal)
    = (((((o : ℝ) + 1 / 2) * 4 - 1 / 2 : ℝ)) : EReal) := by
  rw [← EReal.coe_add, ← EReal.coe_mul, ← EReal.coe_sub]

/-! ## Planes -/

/-- The plane of a scaled depth: its floor, kept between 0 and 127. -/
def bin : EReal → ℕ
  | ⊥ => 0
  | ⊤ => 127
  | (r : ℝ) => (min 127 (max 0 ⌊r⌋)).toNat

/-- A bin is at most 127. -/
theorem bin_le (t : EReal) : bin t ≤ 127 := by
  induction t with
  | bot => exact Nat.zero_le _
  | top => exact le_refl _
  | coe r => show (min 127 (max 0 ⌊r⌋)).toNat ≤ 127; omega

/-- The kernel's plane: the floor, kept in range as a float. -/
theorem bin_floor (t : EReal) :
    min ((127 : ℝ) : EReal) (max ((0 : ℝ) : EReal) (Ideal.liftRound Int.floor t)) = ((bin t : ℝ) : EReal) := by
  induction t with
  | bot => rw [Ideal.liftRound_bot, max_eq_left bot_le, coe_min', min_eq_right (by norm_num)]; show _ = (((0 : ℕ) : ℝ) : EReal); norm_num
  | top => rw [Ideal.liftRound_top, max_eq_right le_top, min_eq_left le_top]; show _ = (((127 : ℕ) : ℝ) : EReal); norm_num
  | coe r =>
    rw [Ideal.liftRound_coe, coe_max', coe_min']
    show _ = ((((min 127 (max 0 ⌊r⌋)).toNat : ℕ) : ℝ) : EReal)
    have h : ((((min 127 (max 0 ⌊r⌋)).toNat : ℕ) : ℤ)) = min 127 (max 0 ⌊r⌋) := by omega
    have h' : ((((min 127 (max 0 ⌊r⌋)).toNat : ℕ) : ℝ)) = ((min 127 (max 0 ⌊r⌋) : ℤ) : ℝ) := by rw [← h]; push_cast; rfl
    rw [h']
    push_cast
    rfl

/-- The reference's plane: the integer part, kept in range as a word. -/
theorem bin_trunc (t : EReal) :
    IntOp.minsi 127#32 (IntOp.maxsi 0#32 (Ideal.fptosi 32 t)) = BitVec.ofNat 32 (bin t) := by
  have hc : ∃ z : ℤ, Ideal.toIntClamped (-(2 ^ (32 - 1) : Nat)) ((2 ^ (32 - 1) : Nat) - 1) t = z ∧ -2 ^ 31 ≤ z ∧ z ≤ 2 ^ 31 - 1
      ∧ (bin t : ℤ) = min 127 (max 0 z) := by
    induction t with
    | bot => exact ⟨_, rfl, by norm_num, by norm_num, by decide⟩
    | top => exact ⟨_, rfl, by norm_num, by norm_num, by decide⟩
    | coe r =>
      refine ⟨_, Ideal.toIntClamped_coe _ _ _, ?_, ?_, ?_⟩
      · norm_num
      · norm_num
      · show (((min 127 (max 0 ⌊r⌋)).toNat : ℕ) : ℤ) = _
        by_cases hr : 0 ≤ r
        · rw [if_pos hr]
          have := Int.floor_nonneg.mpr hr
          norm_num
          omega
        · rw [if_neg hr]
          have h1 : ⌊r⌋ ≤ 0 := by
            have h2 := Int.floor_le r
            have : ((⌊r⌋ : ℤ) : ℝ) ≤ (0 : ℤ) := by push_cast; linarith
            exact_mod_cast this
          have h3 : ⌈r⌉ ≤ 0 := Int.ceil_le.mpr (by push_cast; linarith)
          norm_num
          omega
  obtain ⟨z, hz, hlo, hhi, hb⟩ := hc
  unfold Ideal.fptosi
  rw [hz]
  have hzt : (BitVec.ofInt 32 z).toInt = z := by
    rw [BitVec.toInt_ofInt, Int.bmod_eq_of_le] <;> omega
  apply BitVec.eq_of_toInt_eq
  have hbl := bin_le t
  have hr : (BitVec.ofNat 32 (bin t)).toInt = (bin t : ℤ) := by
    rw [BitVec.toInt_eq_toNat_cond, BitVec.toNat_ofNat]; split <;> omega
  rw [hr, hb]
  unfold IntOp.minsi IntOp.maxsi
  simp only [BitVec.slt, BitVec.sle, hzt, decide_eq_true_eq]
  have z0 : (0#32 : BitVec 32).toInt = 0 := by decide
  have z1 : (127#32 : BitVec 32).toInt = 127 := by decide
  split <;> split <;> simp_all <;> omega

end Cert.Splat

end
-- ==== Proof.Host.lean ====
/- What the kernel's calls read: the two inputs without their unit axis, the resize weights, the band; and what its result
   array holds. -/
module

public import proofs.«01_k».proof.Proof.Arrays
public import proofs.«01_k».proof.Proof.Run
public import proofs.«01_k».proof.Proof.Weights
public import Idealize.ShloMosaic.Lib.StableHlo.RunRead

@[expose] public section

set_option maxRecDepth 16384

noncomputable section

namespace Cert.Splat

open Cert.KernelIdeal Cert.KernelIdeal.Gen
open Idealize.ShloMosaic hiding ix0 ix1 ix2 ix3 ix4 ix5 ix6
open Idealize.ShloMosaic.TcCoe Idealize.ShloMosaic.ValueIdx Idealize.ShloMosaic.StableHlo

variable (m : (ℓ : Loc nD τ sig) → Buf (Elt Ideal) ℓ) (ρ : Dev nD → PrngReg) (c : Dev nD)

/-- The kernel's weights before they are divided. -/
def rawV : FVec Ideal S512x128 .f32 :=
  maximumf (broadcastInDim S512x128 ![] bcast_S_S512x128 (constant S_ .f32 0x00000000#32))
    (subf (broadcastInDim S512x128 ![] bcast_S_S512x128 (constant S_ .f32 0x3F800000#32))
      (Host.divf (Host.absf (subf
        (broadcastInDim S512x128 ![0, 1] bcast_S1x128_S512x128_0_1 (broadcastInDim S1x128 ![1] bcast_S128_S1x128_1
          (subf (mulf (addf (sitofp .f32 (iotaInDim S128 32 0)) (broadcastInDim S128 ![] bcast_S_S128 (constant S_ .f32 0x3F000000#32)))
            (broadcastInDim S128 ![] bcast_S_S128 (constant S_ .f32 0x40800000#32)))
            (broadcastInDim S128 ![] bcast_S_S128 (constant S_ .f32 0x3F000000#32)))))
        (broadcastInDim S512x128 ![0, 1] bcast_S512x1_S512x128_0_1 (broadcastInDim S512x1 ![0] bcast_S512_S512x1_0
          (sitofp .f32 (iotaInDim S512 32 0))))))
        (broadcastInDim S512x128 ![] bcast_S_S512x128 (constant S_ .f32 0x40800000#32))))

/-- Their totals. -/
def totV : FVec Ideal S1x128 .f32 :=
  broadcastInDim S1x128 ![1] bcast_S128_S1x128_1
    (Host.reduceAdd rawV (constant (F := Ideal) S_ .f32 0x00000000#32) reducesTo_S512x128_S128_d0 h_S_)

/-- The weights. -/
def weightV : FVec Ideal S512x128 .f32 :=
  select (broadcastInDim S512x128 ![0, 1] bcast_S1x128_S512x128_0_1
      (cmpf .ogt (Host.absf totV) (broadcastInDim S1x128 ![] bcast_S_S1x128 (constant (F := Ideal) S_ .f32 0x322BCC77#32))))
    (Host.divf rawV (broadcastInDim S512x128 ![0, 1] bcast_S1x128_S512x128_0_1 totV))
    (broadcastInDim S512x128 ![] bcast_S_S512x128 (constant (F := Ideal) S_ .f32 0x00000000#32))

/-- The quotients of the triangle weights by their totals, before the guard picks between them and zero. -/
theorem W1_v28 : W1 m ρ c (Proc.devRef .tc main_v28)
    = Host.divf rawV (broadcastInDim S512x128 ![0, 1] bcast_S1x128_S512x128_0_1 totV) := by
  after_reads_simp
  rfl

/-- The guard: whether a total is larger than the small threshold. -/
theorem W1_v26 : W1 m ρ c (Proc.devRef .tc main_v26)
    = cmpf .ogt (Host.absf totV) (broadcastInDim S1x128 ![] bcast_S_S1x128 (constant (F := Ideal) S_ .f32 0x322BCC77#32)) := by
  after_reads_simp
  rfl

/-- The value that the guard falls back to is the constant zero. -/
theorem W1_cst8 : W1 m ρ c (Proc.devRef .tc main_cst_8) = constant (F := Ideal) S_ .f32 0x00000000#32 := by
  after_reads_simp

/-- After the guard the weights are `weightV`. -/
theorem W2_v29 : W2 m ρ c (Proc.devRef .tc main_v29) = weightV := by
  have h := W1_v28 m ρ c
  have h' := W1_v26 m ρ c
  have h'' := W1_cst8 m ρ c
  show after hostOps0_1 (W1 m ρ c) (Proc.devRef .tc main_v29) = weightV
  generalize W1 m ρ c = W at h h' h''
  after_reads_simp
  rw [h, h', h'']
  rfl

/-- The first launch gets the transposed weights for the rows. -/
theorem V3_v30 : V3 m ρ c main_v30 = transpose S128x512 [1, 0] weightV transposes_S512x128_S128x512_1_0 := by
  have h := W2_v29 m ρ c
  show after hostOps0_2 (W2 m ρ c) (Proc.devRef .tc main_v30) = _
  generalize W2 m ρ c = W at h
  after_reads_simp
  rw [h]

/-- The first launch gets the weights, transposed twice, for the columns. -/
theorem V3_v31 : V3 m ρ c main_v31
    = transpose S512x128 [1, 0] (transpose S128x512 [1, 0] weightV transposes_S512x128_S128x512_1_0) transposes_S128x512_S512x128_1_0 := by
  have h := W2_v29 m ρ c
  show after hostOps0_2 (W2 m ρ c) (Proc.devRef .tc main_v31) = _
  generalize W2 m ρ c = W at h
  after_reads_simp
  rw [h]

/-- The first launch gets the depth maps without their axis of length one. -/
theorem V3_v0 : V3 m ρ c main_v0 = shapeCast S8x512x512 (m ((c : Thread nD τ).loc main_arg0)) shapeCasts_S8x1x512x512_S8x512x512 := by
  show W3 m ρ c (Proc.devRef .tc main_v0) = _
  rw [W3_of m ρ c main_v0 (by decide), W2_of m ρ c main_v0 (by decide)]
  after_reads_simp
  rfl

/-- The first launch gets the x-rays without their axis of length one. -/
theorem V3_v1 : V3 m ρ c main_v1 = shapeCast S8x512x512 (m ((c : Thread nD τ).loc main_arg1)) shapeCasts_S8x1x512x512_S8x512x512 := by
  show W3 m ρ c (Proc.devRef .tc main_v1) = _
  rw [W3_of m ρ c main_v1 (by decide), W2_of m ρ c main_v1 (by decide)]
  after_reads_simp
  rfl

/-- The band as printed. -/
def bandV : FVec Ideal S128x128 .f32 := fun i => FloatOps.ofBits .f32 (lit0 (S128x128.rowMajor i))

/-- The band matrix is the constant `bandV` before the first launch. -/
theorem V3_cst : V3 m ρ c main_cst = bandV := by
  show W3 m ρ c (Proc.devRef .tc main_cst) = _
  rw [W3_of m ρ c main_cst (by decide), W2_of m ρ c main_cst (by decide)]
  after_reads_simp
  rfl

/-- The first launch leaves the band matrix alone. -/
theorem V4_cst : V4 m ρ c main_cst = bandV :=
  (W4_of m ρ c main_cst (by decide)).trans (V3_cst m ρ c)

/-- The second launch gets the resized x-rays. -/
theorem V4_x : V4 m ρ c main_v32_0 = resizedV (V3 m ρ c main_v1) (V3 m ρ c main_v30) (V3 m ρ c main_v31) :=
  (W4_arr m ρ c 4).trans (final0_4 (V3 m ρ) c)

/-- The second launch gets the bins. -/
theorem V4_ix : V4 m ρ c main_v32_1 = indexV (V3 m ρ c main_v0) (V3 m ρ c main_v30) (V3 m ρ c main_v31) :=
  (W4_arr m ρ c 5).trans (final0_5 (V3 m ρ) c)

/-- The second launch leaves the volume that belongs to these x-rays and bins. -/
theorem V5_vol : V5 m ρ c main_v33 = volumeV (V4 m ρ c main_v32_0) (V4 m ρ c main_v32_1) (V4 m ρ c main_cst) :=
  (W5_arr m ρ c 3).trans (final1_3 (V4 m ρ) c)

/-- The result is that volume with an axis of length one added. -/
theorem W6_out : W6 m ρ c (Proc.devRef .tc main_v34)
    = shapeCast S8x1x128x128x128 (V5 m ρ c main_v33) shapeCasts_S8x128x128x128_S8x1x128x128x128 := by
  show after hostOps2 (W5 m ρ c) (Proc.devRef .tc main_v34) = _
  show _ = shapeCast S8x1x128x128x128 (W5 m ρ c (Proc.devRef .tc main_v33)) _
  generalize W5 m ρ c = W
  after_reads_simp
  rfl

end Cert.Splat

end
-- ==== Proof.Resize.lean ====
/- The kernel's first call over the extended reals: the resized x-ray and the plane indices, as sums over the inputs. -/
module

public import proofs.«01_k».proof.Proof.Host
public import Idealize.ShloMosaic.Lib.MatmulPlain

@[expose] public section

set_option maxRecDepth 16384

noncomputable section

namespace Cert.Splat

open Cert.KernelIdeal Cert.KernelIdeal.Gen
open Idealize.ShloMosaic hiding ix0 ix1 ix2 ix3 ix4 ix5 ix6
open Idealize.ShloMosaic.TcCoe Idealize.ShloMosaic.ValueIdx
open scoped BigOperators

/-- An image resized: rows first, then columns. -/
def resized (f : Fin 512 → Fin 512 → EReal) (h w : Fin 128) : EReal :=
  ∑ j : Fin 512, (∑ i : Fin 512, ((share i h : ℝ) : EReal) * f i j) * ((share j w : ℝ) : EReal)

/-- A depth as its plane's float, before the floor. -/
def scaled (t : EReal) : EReal := Ideal.div (t - ((0 : ℝ) : EReal)) ((100 : ℝ) : EReal) * ((127 : ℝ) : EReal)

/-- The weights of the kernel before normalisation are the triangle `wgt`. -/
theorem rawV_apply (i : Fin 512) (o : Fin 128) : rawV (ix2 i o) = ((wgt i o : ℝ) : EReal) := by
  have e : rawV (ix2 i o) = max (Ideal.ofBits .f32 0x00000000#32) (Ideal.ofBits .f32 0x3F800000#32
      - Ideal.div (max (((((((BitVec.ofNat 32 o.val).toInt : ℝ) : EReal) + Ideal.ofBits .f32 0x3F000000#32) * Ideal.ofBits .f32 0x40800000#32
            - Ideal.ofBits .f32 0x3F000000#32) - (((BitVec.ofNat 32 i.val).toInt : ℝ) : EReal)))
          (-((((((BitVec.ofNat 32 o.val).toInt : ℝ) : EReal) + Ideal.ofBits .f32 0x3F000000#32) * Ideal.ofBits .f32 0x40800000#32
            - Ideal.ofBits .f32 0x3F000000#32) - (((BitVec.ofNat 32 i.val).toInt : ℝ) : EReal))))
        (Ideal.ofBits .f32 0x40800000#32)) := rfl
  rw [e, word_zero, word_one, word_half, word_four, word_nat _ (by have := o.isLt; omega), word_nat _ (by have := i.isLt; omega), middle_eq,
    ← EReal.coe_sub, coe_abs', coe_div' _ (by norm_num), ← EReal.coe_sub, coe_max']
  rfl

/-- The total of the weights of an output is `tot`. -/
theorem totV_apply (o : Fin 128) : totV (ix2 (0 : Fin 1) o) = ((tot o : ℝ) : EReal) := by
  have e : totV (ix2 (0 : Fin 1) o) = Ideal.hostReduceAdd reducesTo_S512x128_S128_d0 rawV (Ideal.ofBits .f32 0x00000000#32) (ix1 o) := by
    refine (congrArg (Ideal.hostReduceAdd reducesTo_S512x128_S128_d0 rawV (Ideal.ofBits .f32 0x00000000#32))
      (?_ : _ = ix1 o))
    funext a
    match a with
    | ⟨0, _⟩ => rfl
  have hr : S512x128.Reduces [0] S128 := by decide
  rw [e, Ideal.hostReduceAdd_single _ hr, word_zero, EReal.coe_zero, zero_add]
  unfold tot
  rw [← coe_sum' fun i : Fin 512 => wgt i o]
  refine Finset.sum_congr rfl fun (i : Fin 512) _ => ?_
  have hl : hr.lift (ix1 o) i = (ix2 i o : S512x128.Idx) := by
    funext a
    match a with
    | ⟨0, _⟩ => rfl
    | ⟨1, _⟩ => rfl
  exact (congrArg rawV hl).trans (rawV_apply i o)

/-- The weights of the kernel are `share`. -/
theorem weightV_apply (i : Fin 512) (o : Fin 128) : weightV (ix2 i o) = ((share i o : ℝ) : EReal) := by
  have e : weightV (ix2 i o) = Scalar.select (Ideal.cmp .ogt (max (totV (ix2 (0 : Fin 1) o)) (-totV (ix2 (0 : Fin 1) o))) (Ideal.ofBits .f32 0x322BCC77#32))
      (Ideal.div (rawV (ix2 i o)) (totV (ix2 (0 : Fin 1) o))) (Ideal.ofBits .f32 0x00000000#32) := by
    have b : ∀ x : S1x128.Idx → EReal, broadcastInDim S512x128 ![0, 1] bcast_S1x128_S512x128_0_1 x (ix2 i o) = x (ix2 (0 : Fin 1) o) := by
      intro x
      refine congrArg x (funext fun a => ?_)
      match a with
      | ⟨0, _⟩ => rfl
      | ⟨1, _⟩ => rfl
    have b' : ∀ x : S1x128.Idx → BitVec 1, broadcastInDim S512x128 ![0, 1] bcast_S1x128_S512x128_0_1 x (ix2 i o) = x (ix2 (0 : Fin 1) o) := by
      intro x
      refine congrArg x (funext fun a => ?_)
      match a with
      | ⟨0, _⟩ => rfl
      | ⟨1, _⟩ => rfl
    unfold weightV
    rw [select_apply, b', hostDivf_apply, b]
    rfl
  have ht := tot_ge o o.isLt
  rw [e, totV_apply, rawV_apply, coe_abs', abs_of_pos (by linarith), coe_div' _ (tot_ne o o.isLt)]
  rw [show Ideal.cmp .ogt ((tot o : ℝ) : EReal) (Ideal.ofBits .f32 0x322BCC77#32) = 1#1 from ?_, select_one]
  · rfl
  · have hlt : Ideal.ofBits .f32 0x322BCC77#32 < ((tot o : ℝ) : EReal) := lt_of_lt_of_le word_guard (EReal.coe_le_coe_iff.mpr ht)
    show BitVec.ofBool (decide _) = 1#1
    rw [decide_eq_true hlt]
    rfl

/-- The row weights at output `h` and input `i` are `share i h`. -/
theorem wh_apply (h : Fin 128) (i : Fin 512) :
    transpose S128x512 [1, 0] weightV transposes_S512x128_S128x512_1_0 (ix2 h i) = ((share i h : ℝ) : EReal) := by
  rw [← weightV_apply]
  refine congrArg weightV (funext fun a => ?_)
  match a with
  | ⟨0, _⟩ => rfl
  | ⟨1, _⟩ => rfl

/-- The column weights at input `j` and output `w` are `share j w`. -/
theorem wwt_apply (j : Fin 512) (w : Fin 128) :
    transpose S512x128 [1, 0] (transpose S128x512 [1, 0] weightV transposes_S512x128_S128x512_1_0) transposes_S128x512_S512x128_1_0 (ix2 j w)
      = ((share j w : ℝ) : EReal) := by
  rw [← wh_apply]
  refine congrArg (transpose S128x512 [1, 0] weightV transposes_S512x128_S128x512_1_0) (funext fun a => ?_)
  match a with
  | ⟨0, _⟩ => rfl
  | ⟨1, _⟩ => rfl

/-- The two products of the first call. -/
theorem products_apply (p : Option ContractPrecision) (wh : FVec Ideal S128x512 .f32) (wwt : FVec Ideal S512x128 .f32) (x : FVec Ideal S512x512 .f32) (h w : Fin 128) :
    matmul dot_S128x512_S512x128_S128x128_1_0_0_1_n_n p
      (matmul dot_S128x512_S512x512_S128x512_1_0_0_1_n_n p wh x (constant S128x512 .f32 0x00000000#32)) wwt
      (constant S128x128 .f32 0x00000000#32) (ix2 h w)
      = ∑ j : Fin 512, (∑ i : Fin 512, wh (ix2 h i) * x (ix2 i j)) * wwt (ix2 j w) := by
  have z : ∀ {s : Shape} (i : s.Idx), (constant (F := Ideal) s .f32 0x00000000#32) i = 0 := fun i => by
    rw [constant_apply, word_zero, EReal.coe_zero]
  refine (Ideal.matmul_plain_apply (M := 128) (K := 512) (N := 128) p
    (matmul dot_S128x512_S512x512_S128x512_1_0_0_1_n_n p wh x (constant S128x512 .f32 0x00000000#32)) wwt _ h w).trans ?_
  rw [z, zero_add]
  refine Finset.sum_congr rfl fun j _ => ?_
  refine congrArg (· * wwt (ix2 j w)) ?_
  refine (Ideal.matmul_plain_apply (M := 128) (K := 512) (N := 512) p wh x _ h j).trans ?_
  rw [z, zero_add]

/-- The launch arrays as images. -/
def imageOf (x : FVec Ideal S8x1x512x512 .f32) (b : Fin 8) (i j : Fin 512) : EReal := x (ix4 b (0 : Fin 1) i j)

/-- An input without its unit axis, cut to one image and read as a plane. -/
theorem image_apply (x : FVec Ideal S8x1x512x512 .f32) (b : Fin 8) (i j : Fin 512) :
    shapeCast S512x512 (image (F := Ideal) (shapeCast S8x512x512 x shapeCasts_S8x1x512x512_S8x512x512) b) shapeCasts_S1x512x512_S512x512 (ix2 i j)
      = imageOf x b i j := by
  refine (shapeCast_apply _ _ (ix2 i j : S512x512.Idx) (ix3 (0 : Fin 1) i j : S1x512x512.Idx) ?_).trans ?_
  · rw [rowMajor_val3 _ 262144 512 rfl rfl, rowMajor_val2 _ 512 rfl]
    show 0 * 262144 + i.val * 512 + j.val = i.val * 512 + j.val
    omega
  · show shapeCast S8x512x512 x shapeCasts_S8x1x512x512_S8x512x512 (ix3 b i j) = x (ix4 b (0 : Fin 1) i j)
    refine shapeCast_apply _ _ _ _ ?_
    rw [rowMajor_val3 _ 262144 512 rfl rfl, rowMajor_val4 _ 262144 262144 512 rfl rfl rfl]
    show b.val * 262144 + 0 * 262144 + i.val * 512 + j.val = b.val * 262144 + i.val * 512 + j.val
    omega

/-- A plane under a unit axis, read at an index. -/
theorem under_apply (v : FVec Ideal S128x128 .f32) (h w : Fin 128) :
    shapeCast S1x128x128 v shapeCasts_S128x128_S1x128x128 (ix3 (0 : Fin 1) h w) = v (ix2 h w) := by
  refine shapeCast_apply _ _ _ _ ?_
  rw [rowMajor_val3 _ 16384 128 rfl rfl, rowMajor_val2 _ 128 rfl]
  show h.val * 128 + w.val = 0 * 16384 + h.val * 128 + w.val
  omega

/-- The resized x-ray. -/
theorem resizedV_apply (x : FVec Ideal S8x1x512x512 .f32) (b : Fin 8) (h w : Fin 128) :
    resizedV (F := Ideal) (shapeCast S8x512x512 x shapeCasts_S8x1x512x512_S8x512x512)
        (transpose S128x512 [1, 0] weightV transposes_S512x128_S128x512_1_0)
        (transpose S512x128 [1, 0] (transpose S128x512 [1, 0] weightV transposes_S512x128_S128x512_1_0) transposes_S128x512_S512x128_1_0)
        (ix3 b h w)
      = resized (imageOf x b) h w := by
  unfold resizedV k0_pay4 k0_pay1 k0_pay2
  simp only [shapeCast_self]
  refine (under_apply _ h w).trans ?_
  rw [products_apply]
  unfold resized
  refine Finset.sum_congr rfl fun j _ => ?_
  rw [wwt_apply]
  refine congrArg (· * ((share j w : ℝ) : EReal)) (Finset.sum_congr rfl fun i _ => ?_)
  rw [wh_apply]
  exact congrArg (((share i h : ℝ) : EReal) * ·) (image_apply x b i j)

/-- The plane indices. -/
theorem indexV_apply (x : FVec Ideal S8x1x512x512 .f32) (b : Fin 8) (h w : Fin 128) :
    indexV (F := Ideal) (shapeCast S8x512x512 x shapeCasts_S8x1x512x512_S8x512x512)
        (transpose S128x512 [1, 0] weightV transposes_S512x128_S128x512_1_0)
        (transpose S512x128 [1, 0] (transpose S128x512 [1, 0] weightV transposes_S512x128_S128x512_1_0) transposes_S128x512_S512x128_1_0)
        (ix3 b h w)
      = ((bin (scaled (resized (imageOf x b) h w)) : ℝ) : EReal) := by
  unfold indexV k0_pay3 k0_pay1 k0_pay2
  simp only [shapeCast_self]
  refine (under_apply _ h w).trans ?_
  rw [← bin_floor]
  unfold scaled
  rw [← word_zero, ← word_100, ← word_127]
  refine congrArg (fun t : EReal => min (Ideal.ofBits .f32 0x42FE0000#32) (max (Ideal.ofBits .f32 0x00000000#32)
    (Ideal.liftRound Int.floor (Ideal.div (t - Ideal.ofBits .f32 0x00000000#32) (Ideal.ofBits .f32 0x42C80000#32)
      * Ideal.ofBits .f32 0x42FE0000#32)))) ?_
  rw [products_apply]
  unfold resized
  refine Finset.sum_congr rfl fun j _ => ?_
  rw [wwt_apply]
  refine congrArg (· * ((share j w : ℝ) : EReal)) (Finset.sum_congr rfl fun i _ => ?_)
  rw [wh_apply]
  exact congrArg (((share i h : ℝ) : EReal) * ·) (image_apply x b i j)

end Cert.Splat

end
-- ==== Proof.Band.lean ====
/- The band that the kernel's second call multiplies by is a table of words: one where two positions are the same or
   neighbours, zero elsewhere. -/
module

public import proofs.«01_k».proof.KernelIdeal
public import Mathlib.Data.Fintype.Basic

@[expose] public section

noncomputable section

namespace Cert.Splat

open Cert.KernelIdeal

set_option maxRecDepth 100000 in
/-- Each word of the table, by row and column. -/
theorem band_word : ∀ a b : Fin 128, lit0 ⟨a.val * 128 + b.val, by have := a.isLt; have := b.isLt; omega⟩
    = if a.val ≤ b.val + 1 ∧ b.val ≤ a.val + 1 then 0x3F800000#32 else 0x00000000#32 := by
  decide +kernel

end Cert.Splat

end
-- ==== Proof.Spread.lean ====
/- The real-number equation behind the claim: a depth plane of the pooled volume written as the reference does (three
   neighbouring planes of the spread volume, summed over three rows and three columns, divided by 27) and as the kernel
   does (one weight per pixel, a cubic in the squared distance to the pixel's plane, two band products, and a correction
   on the two end planes). -/
module

public import Mathlib.Analysis.SpecialFunctions.Exp
public import Mathlib.Algebra.BigOperators.Fin
public import Mathlib.Algebra.BigOperators.Field
public import Mathlib.Tactic.IntervalCases
public import Mathlib.Tactic.NormNum
public import Mathlib.Tactic.Linarith
public import Mathlib.Tactic.Ring

@[expose] public section

noncomputable section

namespace Cert.Splat

open Finset

/-- The weight of a plane next to a pixel's own. -/
def w1 : ℝ := Real.exp (-(1 / 2))
/-- The weight of a plane two away. -/
def w2 : ℝ := Real.exp (-2)

/-- The weight at signed distance `e`: zero further than two planes away. -/
def bell (e : ℤ) : ℝ := if e = 0 then 1 else if e = 1 ∨ e = -1 then w1 else if e = 2 ∨ e = -2 then w2 else 0

/-- Whether two positions of an axis are the same or neighbours. -/
def band (a b : ℕ) : ℝ := if a ≤ b + 1 ∧ b ≤ a + 1 then 1 else 0

/-- The band matrix is symmetric. -/
theorem band_comm (a b : ℕ) : band a b = band b a := by unfold band; simp only [and_comm]

/-- The kernel's cubic: the coefficients by divided differences through the four values that it takes. -/
def q3 : ℝ := (((w2 - (w1 + w2)) / 5 - ((w1 + w2) - (1 + w1 + w2)) / 3) / 8
  - ((((w1 + w2) - (1 + w1 + w2)) / 3 - ((1 + w1 + w2) - (1 + 2 * w1))) / 4)) / 9
/-- The second divided difference of the cubic. -/
def d2 : ℝ := (((w1 + w2) - (1 + w1 + w2)) / 3 - ((1 + w1 + w2) - (1 + 2 * w1))) / 4
/-- The first divided difference of the cubic. -/
def d1 : ℝ := (1 + w1 + w2) - (1 + 2 * w1)
/-- The value of the cubic at zero. -/
def d0 : ℝ := 1 + 2 * w1

/-- The weight that the kernel gives plane `d` of a pixel whose plane is `k`. -/
def wt (d k : ℕ) : ℝ :=
  if ((d : ℝ) - k) * ((d : ℝ) - k) ≤ 19 / 2 then
    ((q3 / 27 * (((d : ℝ) - k) * ((d : ℝ) - k)) + (d2 - 5 * q3) / 27) * (((d : ℝ) - k) * ((d : ℝ) - k))
      + (d1 - d2 + 4 * q3) / 27) * (((d : ℝ) - k) * ((d : ℝ) - k)) + d0 / 27
  else 0

/-- The kernel's correction at an end plane, for a pixel at that plane (`e = 0`) or at the one before it. -/
def corr (near next k : ℕ) : ℝ := (if k = near then w1 / 27 else 0) + (if k = next then w2 / 27 else 0)

/-- The correction that plane `d` gets: planes 0 and 127 only. -/
def fix (d k : ℕ) : ℝ := if d = 0 then corr 0 1 k else if d = 127 then corr 127 126 k else 0

/-- A sum over an axis of what the band lets through is a sum over the three neighbours that lie on the axis. -/
theorem sum_band (h : ℕ) (f : Fin 128 → ℝ) :
    ∑ i : Fin 128, band h i * f i
      = ∑ a : Fin 3, if hr : 1 ≤ h + a ∧ h + a - 1 < 128 then f ⟨h + a - 1, hr.2⟩ else 0 := by
  have e : ∀ i : Fin 128, band h i * f i = ∑ a : Fin 3, if i.val + 1 = h + a then f i else 0 := by
    intro i
    rw [Fin.sum_univ_three]
    unfold band
    show (if h ≤ i.val + 1 ∧ i.val ≤ h + 1 then (1 : ℝ) else 0) * f i
      = (if i.val + 1 = h + 0 then f i else 0) + (if i.val + 1 = h + 1 then f i else 0) + (if i.val + 1 = h + 2 then f i else 0)
    by_cases hb : h ≤ i.val + 1 ∧ i.val ≤ h + 1
    · rw [if_pos hb]
      rcases (by omega : i.val + 1 = h + 0 ∨ i.val + 1 = h + 1 ∨ i.val + 1 = h + 2) with h0 | h0 | h0 <;> rw [h0] <;> simp
    · rw [if_neg hb, if_neg (show ¬ i.val + 1 = h + 0 by omega), if_neg (show ¬ i.val + 1 = h + 1 by omega),
        if_neg (show ¬ i.val + 1 = h + 2 by omega)]
      simp
  rw [sum_congr rfl fun i _ => e i, sum_comm]
  refine sum_congr rfl fun a _ => ?_
  by_cases hr : 1 ≤ h + a ∧ h + a - 1 < 128
  · rw [dif_pos hr, sum_eq_single (⟨h + a - 1, hr.2⟩ : Fin 128)]
    · rw [if_pos]; show h + a - 1 + 1 = h + a; omega
    · intro b _ hb
      rw [if_neg]
      intro hb'
      exact hb (Fin.ext (by show b.val = h + a - 1; omega))
    · intro hn; exact absurd (mem_univ _) hn
  · rw [dif_neg hr]
    refine sum_eq_zero fun i _ => ?_
    rw [if_neg]
    intro hi
    exact hr ⟨by omega, by have := i.isLt; omega⟩

/-- Three neighbouring planes of the spread weights are what the kernel's weight less its correction is. -/
theorem sum_bell (d k : ℕ) (hd : d < 128) (hk : k < 128) :
    ∑ d' : Fin 128, band d d' * bell ((d'.val : ℤ) - k) = 27 * (wt d k - fix d k) := by
  rw [sum_band, Fin.sum_univ_three]
  simp only [Fin.val_zero, Fin.val_one, Fin.val_two, add_zero]
  by_cases hfar : (d : ℤ) - k ≤ -4 ∨ 4 ≤ (d : ℤ) - k
  · have hu : ¬ ((d : ℝ) - k) * ((d : ℝ) - k) ≤ 19 / 2 := by
      rcases hfar with h | h
      · have : ((d : ℝ) - k) ≤ -4 := by exact_mod_cast h
        nlinarith
      · have : (4 : ℝ) ≤ (d : ℝ) - k := by exact_mod_cast h
        nlinarith
    have hb : ∀ e : ℤ, e ≤ -3 ∨ 3 ≤ e → bell e = 0 := by
      intro e he
      unfold bell
      rw [if_neg (by omega), if_neg (by omega), if_neg (by omega)]
    have hf : fix d k = 0 := by
      unfold fix corr
      split_ifs <;> first | rfl | omega | simp
    unfold wt
    rw [if_neg hu, hf]
    split_ifs <;> (try rw [hb _ (by push_cast; omega)]) <;> (try rw [hb _ (by push_cast; omega)]) <;>
      (try rw [hb _ (by push_cast; omega)]) <;> ring
  · obtain ⟨e, he, h1, h2⟩ : ∃ e : ℤ, (d : ℤ) = k + e ∧ -4 < e ∧ e < 4 := ⟨d - k, by omega, by omega, by omega⟩
    have hreal : (d : ℝ) - k = e := by
      have : (d : ℝ) = k + e := by exact_mod_cast he
      rw [this]; ring
    have b : ∀ a : ℕ, 1 ≤ d + a → ((d + a - 1 : ℕ) : ℤ) - k = e + a - 1 := by intro a ha; omega
    have hb : ∀ a : ℕ, (if hr : 1 ≤ d + a ∧ d + a - 1 < 128 then bell (((⟨d + a - 1, hr.2⟩ : Fin 128).val : ℤ) - k) else 0)
        = if 1 ≤ d + a ∧ d + a - 1 < 128 then bell (e + a - 1) else 0 := by
      intro a
      by_cases hr : 1 ≤ d + a ∧ d + a - 1 < 128
      · rw [dif_pos hr, if_pos hr]; exact congrArg bell (b a hr.1)
      · rw [dif_neg hr, if_neg hr]
    have hb0 := hb 0
    simp only [add_zero] at hb0
    rw [hb0, hb 1, hb 2]
    unfold wt
    rw [hreal]
    have m1 : d + 1 - 1 < 128 := by omega
    rw [if_pos (show 1 ≤ d + 1 ∧ d + 1 - 1 < 128 from ⟨Nat.le_add_left _ _, m1⟩)]
    have he' : d = 0 ∨ d = 127 ∨ (1 ≤ d ∧ d < 127) := by omega
    unfold fix corr
    rcases he' with rfl | rfl | hmid
    · obtain ⟨n, rfl⟩ : ∃ n : ℕ, e = -n := ⟨k, by push_cast at he; omega⟩
      have hn : n = k := by push_cast at he; omega
      subst hn
      have : n < 4 := by omega
      interval_cases n <;> norm_num [bell, q3, d2, d1, d0] <;> ring
    · obtain ⟨n, rfl⟩ : ∃ n : ℕ, e = n := ⟨127 - k, by push_cast at he; omega⟩
      have hn : k = 127 - n := by push_cast at he; omega
      subst hn
      have : n < 4 := by omega
      interval_cases n <;> norm_num [bell, q3, d2, d1, d0] <;> ring
    · have a0 : 1 ≤ d ∧ d - 1 < 128 := by omega
      have a2 : 1 ≤ d + 2 ∧ d + 2 - 1 < 128 := by omega
      rw [if_pos a0, if_pos a2, if_neg (show ¬ d = 0 by omega), if_neg (show ¬ d = 127 by omega)]
      clear he hreal b hb hb0
      interval_cases e <;> norm_num [bell, q3, d2, d1, d0] <;> ring

/-- The kernel's plane `d` at (`h`, `w`), as real numbers: `x` the resized x-ray, `k` each pixel's plane, `v` the weight
    of plane `d` at a pixel. -/
def plane (x : Fin 128 → Fin 128 → ℝ) (v : Fin 128 → Fin 128 → ℝ) (h w : Fin 128) : ℝ :=
  ∑ j : Fin 128, (∑ i : Fin 128, band h i * (x i j * v i j)) * band j w

/-- The reference's pooled volume at (`d`, `h`, `w`) is the kernel's plane less its correction. -/
theorem pooled_eq (x : Fin 128 → Fin 128 → ℝ) (k : Fin 128 → Fin 128 → ℕ) (hk : ∀ i j, k i j < 128) (d h w : Fin 128) :
    (∑ d' : Fin 128, band d d' * ∑ i : Fin 128, band h i * ∑ j : Fin 128, band w j * (x i j * bell ((d'.val : ℤ) - k i j))) / 27
      = plane x (fun i j => wt d (k i j)) h w - plane x (fun i j => fix d (k i j)) h w := by
  have e : ∀ i j : Fin 128, ∑ d' : Fin 128, band d d' * (band h i * (band w j * (x i j * bell ((d'.val : ℤ) - k i j))))
      = band h i * band w j * x i j * (27 * (wt d (k i j) - fix d (k i j))) := by
    intro i j
    rw [← sum_bell d (k i j) d.isLt (hk i j), mul_sum]
    exact sum_congr rfl fun d' _ => by ring
  have l : ∑ d' : Fin 128, band d d' * ∑ i : Fin 128, band h i * ∑ j : Fin 128, band w j * (x i j * bell ((d'.val : ℤ) - k i j))
      = ∑ j : Fin 128, ∑ i : Fin 128, band h i * band w j * x i j * (27 * (wt d (k i j) - fix d (k i j))) := by
    simp only [mul_sum]
    rw [sum_comm, sum_congr rfl fun i _ => sum_comm, sum_comm]
    exact sum_congr rfl fun j _ => sum_congr rfl fun i _ => e i j
  rw [l]
  unfold plane
  rw [← sum_sub_distrib, Finset.sum_div]
  refine sum_congr rfl fun j _ => ?_
  rw [← sub_mul, ← sum_sub_distrib, sum_mul, Finset.sum_div]
  refine sum_congr rfl fun i _ => ?_
  rw [band_comm j w]
  ring

end Cert.Splat

end
-- ==== Proof.Volume.lean ====
/- The kernel's result over the extended reals: each depth plane as sums of the resized x-ray. -/
module

public import proofs.«01_k».proof.Proof.Resize
public import proofs.«01_k».proof.Proof.Band
public import proofs.«01_k».proof.Proof.Spread

@[expose] public section

set_option maxRecDepth 16384

noncomputable section

namespace Cert.Splat

open Cert.KernelIdeal Cert.KernelIdeal.Gen
open Idealize.ShloMosaic hiding ix0 ix1 ix2 ix3 ix4 ix5 ix6
open Idealize.ShloMosaic.TcCoe Idealize.ShloMosaic.ValueIdx
open scoped BigOperators

/-! ## The coefficients -/

/-- The first Gaussian tap. -/
theorem pay7_apply (i : S128x128.Idx) : k1_pay7 (F := Ideal) i = ((w1 : ℝ) : EReal) := by
  have e : k1_pay7 (F := Ideal) i = Ideal.exp (Ideal.ofBits .f32 0xBF000000#32) := rfl
  rw [e, word_neg_half, Ideal.exp_coe]; rfl
/-- The second Gaussian tap. -/
theorem pay8_apply (i : S128x128.Idx) : k1_pay8 (F := Ideal) i = ((w2 : ℝ) : EReal) := by
  have e : k1_pay8 (F := Ideal) i = Ideal.exp (Ideal.ofBits .f32 0xC0000000#32) := rfl
  rw [e, word_neg_two, Ideal.exp_coe]; rfl
/-- The value of the cubic at zero. -/
theorem pay9_apply (i : S128x128.Idx) : k1_pay9 (F := Ideal) i = ((d0 : ℝ) : EReal) := by
  have e : k1_pay9 (F := Ideal) i = Ideal.ofBits .f32 0x3F800000#32 + Ideal.ofBits .f32 0x40000000#32 * k1_pay7 (F := Ideal) i := rfl
  rw [e, pay7_apply, word_one, word_two, ← EReal.coe_mul, ← EReal.coe_add]; rfl
/-- The value of the cubic at one. -/
theorem pay10_apply (i : S128x128.Idx) : k1_pay10 (F := Ideal) i = ((1 + w1 + w2 : ℝ) : EReal) := by
  have e : k1_pay10 (F := Ideal) i = Ideal.ofBits .f32 0x3F800000#32 + k1_pay7 (F := Ideal) i + k1_pay8 (F := Ideal) i := rfl
  rw [e, pay7_apply, pay8_apply, word_one, ← EReal.coe_add, ← EReal.coe_add]
/-- The value of the cubic at four. -/
theorem pay11_apply (i : S128x128.Idx) : k1_pay11 (F := Ideal) i = ((w1 + w2 : ℝ) : EReal) := by
  have e : k1_pay11 (F := Ideal) i = k1_pay7 (F := Ideal) i + k1_pay8 (F := Ideal) i := rfl
  rw [e, pay7_apply, pay8_apply, ← EReal.coe_add]
/-- The first divided difference. -/
theorem pay12_apply (i : S128x128.Idx) : k1_pay12 (F := Ideal) i = ((d1 : ℝ) : EReal) := by
  have e : k1_pay12 (F := Ideal) i = k1_pay10 (F := Ideal) i - k1_pay9 (F := Ideal) i := rfl
  rw [e, pay10_apply, pay9_apply, ← EReal.coe_sub]; rfl
/-- The second divided difference. -/
theorem pay13_apply (i : S128x128.Idx) : k1_pay13 (F := Ideal) i = ((d2 : ℝ) : EReal) := by
  have e : k1_pay13 (F := Ideal) i = Ideal.div (Ideal.div (k1_pay11 (F := Ideal) i - k1_pay10 (F := Ideal) i) (Ideal.ofBits .f32 0x40400000#32)
      - k1_pay12 (F := Ideal) i) (Ideal.ofBits .f32 0x40800000#32) := rfl
  rw [e, pay10_apply, pay11_apply, pay12_apply, word_three, word_four, ← EReal.coe_sub, coe_div' _ (by norm_num), ← EReal.coe_sub,
    coe_div' _ (by norm_num)]
  rfl
/-- The third divided difference. -/
theorem pay14_apply (i : S128x128.Idx) : k1_pay14 (F := Ideal) i = ((q3 : ℝ) : EReal) := by
  have e : k1_pay14 (F := Ideal) i = Ideal.div (Ideal.div (Ideal.div (k1_pay8 (F := Ideal) i - k1_pay11 (F := Ideal) i) (Ideal.ofBits .f32 0x40A00000#32)
      - Ideal.div (k1_pay11 (F := Ideal) i - k1_pay10 (F := Ideal) i) (Ideal.ofBits .f32 0x40400000#32)) (Ideal.ofBits .f32 0x41000000#32)
      - k1_pay13 (F := Ideal) i) (Ideal.ofBits .f32 0x41100000#32) := rfl
  rw [e, pay8_apply, pay10_apply, pay11_apply, pay13_apply, word_three, word_five, word_eight, word_nine, ← EReal.coe_sub, ← EReal.coe_sub,
    coe_div' _ (by norm_num), coe_div' _ (by norm_num), ← EReal.coe_sub, coe_div' _ (by norm_num), ← EReal.coe_sub, coe_div' _ (by norm_num)]
  rfl
/-- The difference of the first two divided differences. -/
theorem pay15_apply (i : S128x128.Idx) : k1_pay15 (F := Ideal) i = ((d1 - d2 : ℝ) : EReal) := by
  have e : k1_pay15 (F := Ideal) i = k1_pay12 (F := Ideal) i - k1_pay13 (F := Ideal) i := rfl
  rw [e, pay12_apply, pay13_apply, ← EReal.coe_sub]
/-- The constant coefficient over 27. -/
theorem pay17_apply (i : S128x128.Idx) : k1_pay17 (F := Ideal) k1_pay9 i = ((d0 / 27 : ℝ) : EReal) := by
  have e : k1_pay17 (F := Ideal) k1_pay9 i = Ideal.div (k1_pay9 (F := Ideal) i) (Ideal.ofBits .f32 0x41D80000#32) := rfl
  rw [e, pay9_apply, word_27, coe_div' _ (by norm_num)]
/-- The linear coefficient over 27. -/
theorem pay18_apply (i : S128x128.Idx) : k1_pay18 (F := Ideal) k1_pay14 k1_pay15 k1_pay16 i = (((d1 - d2 + 4 * q3) / 27 : ℝ) : EReal) := by
  have e : k1_pay18 (F := Ideal) k1_pay14 k1_pay15 k1_pay16 i = Ideal.div (k1_pay15 (F := Ideal) i + Ideal.ofBits .f32 0x40800000#32 * k1_pay14 (F := Ideal) i)
    (Ideal.ofBits .f32 0x41D80000#32) := rfl
  rw [e, pay14_apply, pay15_apply, word_27, word_four, ← EReal.coe_mul, ← EReal.coe_add, coe_div' _ (by norm_num)]
/-- The quadratic coefficient over 27. -/
theorem pay19_apply (i : S128x128.Idx) : k1_pay19 (F := Ideal) k1_pay13 k1_pay14 i = (((d2 - 5 * q3) / 27 : ℝ) : EReal) := by
  have e : k1_pay19 (F := Ideal) k1_pay13 k1_pay14 i = Ideal.div (k1_pay13 (F := Ideal) i - Ideal.ofBits .f32 0x40A00000#32 * k1_pay14 (F := Ideal) i)
    (Ideal.ofBits .f32 0x41D80000#32) := rfl
  rw [e, pay13_apply, pay14_apply, word_27, word_five, ← EReal.coe_mul, ← EReal.coe_sub, coe_div' _ (by norm_num)]
/-- The cubic coefficient over 27. -/
theorem pay20_apply (i : S128x128.Idx) : k1_pay20 (F := Ideal) k1_pay14 i = ((q3 / 27 : ℝ) : EReal) := by
  have e : k1_pay20 (F := Ideal) k1_pay14 i = Ideal.div (k1_pay14 (F := Ideal) i) (Ideal.ofBits .f32 0x41D80000#32) := rfl
  rw [e, pay14_apply, word_27, coe_div' _ (by norm_num)]

/-! ## One plane -/

/-- A depth as a float. -/
theorem depth_float (p j : ℕ) (hp : p < 8) (hj : j < 16) :
    Scalar.sitofp (F := Ideal) .f32 (depth p j) = (((p * 16 + j : ℕ) : ℝ) : EReal) := by
  have e : depth p j = BitVec.ofNat 32 (p * 16 + j) := by
    show BitVec.ofNat 32 p * BitVec.ofNat 32 16 + BitVec.ofNat 32 j = _
    rw [← BitVec.ofNat_mul, ← BitVec.ofNat_add]
  rw [e]
  exact word_nat _ (by omega)

/-- The comparison below or equal of two reals. -/
theorem cmp_ole (a b : ℝ) : Ideal.cmp .ole (a : EReal) b = if a ≤ b then 1#1 else 0#1 := by
  show BitVec.ofBool (decide ((a : EReal) ≤ b)) = _
  by_cases h : a ≤ b
  · rw [decide_eq_true (EReal.coe_le_coe_iff.mpr h), if_pos h]; rfl
  · rw [decide_eq_false (fun h' => h (EReal.coe_le_coe_iff.mp h')), if_neg h]; rfl

/-- and equality. -/
theorem cmp_oeq (a b : ℝ) : Ideal.cmp .oeq (a : EReal) b = if a = b then 1#1 else 0#1 := by
  show BitVec.ofBool (decide ((a : EReal) = b)) = _
  by_cases h : a = b
  · rw [decide_eq_true (congrArg _ h), if_pos h]; rfl
  · rw [decide_eq_false (fun h' => h (EReal.coe_eq_coe_iff.mp h')), if_neg h]; rfl

/-- The kernel's weight of a pixel whose plane is `k`. -/
theorem cubic_apply (ix : FVec Ideal S128x128 .f32) (i : S128x128.Idx) (k p j : ℕ) (hp : p < 8) (hj : j < 16)
    (hk : ix i = ((k : ℝ) : EReal)) : cubicV (distV ix (depth p j)) i = ((wt (p * 16 + j) k : ℝ) : EReal) := by
  have hd : distV ix (depth p j) i = (((((p * 16 + j : ℕ) : ℝ) - k) * (((p * 16 + j : ℕ) : ℝ) - k) : ℝ) : EReal) := by
    have e : distV ix (depth p j) i = (Scalar.sitofp (F := Ideal) .f32 (depth p j) - ix i) * (Scalar.sitofp (F := Ideal) .f32 (depth p j) - ix i) := rfl
    rw [e, depth_float p j hp hj, hk, ← EReal.coe_sub, ← EReal.coe_mul]
  generalize distV ix (depth p j) = u at hd
  have e : cubicV u i = Scalar.select (Ideal.cmp .ole (u i) (Ideal.ofBits .f32 0x41180000#32))
      (((k1_pay20 (F := Ideal) k1_pay14 i * u i + k1_pay19 (F := Ideal) k1_pay13 k1_pay14 i) * u i
        + k1_pay18 (F := Ideal) k1_pay14 k1_pay15 k1_pay16 i) * u i + k1_pay17 (F := Ideal) k1_pay9 i) (Ideal.ofBits .f32 0x00000000#32) := rfl
  rw [e, hd, pay17_apply, pay18_apply, pay19_apply, pay20_apply, word_cut, word_zero, cmp_ole]
  unfold wt
  split
  · rw [select_one, ← EReal.coe_mul, ← EReal.coe_add, ← EReal.coe_mul, ← EReal.coe_add, ← EReal.coe_mul, ← EReal.coe_add]
  · rw [select_zero]

/-- The weight of an end plane's correction. -/
theorem corr_apply (ix : FVec Ideal S128x128 .f32) (i : S128x128.Idx) (k n n' : ℕ) (near next : BitVec 32)
    (hn : Ideal.ofBits .f32 near = ((n : ℝ) : EReal)) (hn' : Ideal.ofBits .f32 next = ((n' : ℝ) : EReal))
    (hk : ix i = ((k : ℝ) : EReal)) : corrV ix near next i = ((corr n n' k : ℝ) : EReal) := by
  have e : corrV ix near next i = Scalar.select (Ideal.cmp .oeq (ix i) (Ideal.ofBits .f32 near))
        (Ideal.div (k1_pay7 (F := Ideal) i) (Ideal.ofBits .f32 0x41D80000#32)) (Ideal.ofBits .f32 0x00000000#32)
      + Scalar.select (Ideal.cmp .oeq (ix i) (Ideal.ofBits .f32 next))
        (Ideal.div (k1_pay8 (F := Ideal) i) (Ideal.ofBits .f32 0x41D80000#32)) (Ideal.ofBits .f32 0x00000000#32) := rfl
  have s : ∀ (a : ℝ) (l : ℕ), Scalar.select (if (k : ℝ) = (l : ℝ) then 1#1 else 0#1) ((a : ℝ) : EReal) ((0 : ℝ) : EReal)
      = ((if k = l then a else 0 : ℝ) : EReal) := by
    intro a l
    by_cases h : k = l
    · rw [if_pos h, if_pos (by rw [h]), select_one]
    · rw [if_neg h, if_neg (by exact_mod_cast h), select_zero]
  rw [e, hk, hn, hn', cmp_oeq, cmp_oeq, pay7_apply, pay8_apply, word_27, word_zero, coe_div' _ (by norm_num), coe_div' _ (by norm_num), s, s,
    ← EReal.coe_add]
  rfl

/-- The band's entries. -/
theorem bandV_apply (a b : Fin 128) : bandV (ix2 a b) = ((band a b : ℝ) : EReal) := by
  have e : S128x128.rowMajor (ix2 a b) = ⟨a.val * 128 + b.val, by have := a.isLt; have := b.isLt; show _ < 16384; omega⟩ :=
    Fin.ext (by rw [rowMajor_val2 _ 128 rfl])
  show Ideal.ofBits .f32 (lit0 (S128x128.rowMajor (ix2 a b))) = _
  rw [e, band_word a b]
  unfold band
  split
  · rw [word_one]
  · rw [word_zero]

/-- Two band products of a real array. -/
theorem spread_apply (x v : Fin 128 → Fin 128 → ℝ) (f : FVec Ideal S128x128 .f32)
    (hf : ∀ i j, f (ix2 i j) = ((x i j * v i j : ℝ) : EReal)) (h w : Fin 128) :
    spreadV bandV f (ix2 h w) = ((plane x v h w : ℝ) : EReal) := by
  have z : ∀ {s : Shape} (i : s.Idx), (constant (F := Ideal) s .f32 0x00000000#32) i = 0 := fun i => by
    rw [constant_apply, word_zero, EReal.coe_zero]
  unfold spreadV
  refine (Ideal.matmul_plain_apply (M := 128) (K := 128) (N := 128) none
    (matmul dot_S128x128_S128x128_S128x128_1_0_0_1_n_n none bandV f (constant S128x128 .f32 0x00000000#32)) bandV _ h w).trans ?_
  rw [z, zero_add]
  unfold plane
  rw [← coe_sum' fun j : Fin 128 => (∑ i : Fin 128, band h i * (x i j * v i j)) * band j w]
  refine Finset.sum_congr rfl fun j _ => ?_
  rw [bandV_apply, EReal.coe_mul]
  refine congrArg (· * ((band j w : ℝ) : EReal)) ?_
  refine (Ideal.matmul_plain_apply (M := 128) (K := 128) (N := 128) none bandV f _ h j).trans ?_
  rw [z, zero_add, ← coe_sum' fun i : Fin 128 => band h i * (x i j * v i j)]
  refine Finset.sum_congr rfl fun i _ => ?_
  rw [bandV_apply, hf, ← EReal.coe_mul]

variable (x : Fin 128 → Fin 128 → ℝ) (k : Fin 128 → Fin 128 → ℕ) (ix xr : FVec Ideal S128x128 .f32)

/-- One entry of a plane, for x-rays that are numbers and bins that are whole. -/
theorem planeV_apply (hx : ∀ i j, xr (ix2 i j) = ((x i j : ℝ) : EReal)) (hk : ∀ i j, ix (ix2 i j) = ((k i j : ℝ) : EReal))
    (p j : ℕ) (hp : p < 8) (hj : j < 16) (h w : Fin 128) :
    planeV ix xr bandV (depth p j) (ix2 h w) = ((plane x (fun a b => wt (p * 16 + j) (k a b)) h w : ℝ) : EReal) := by
  refine spread_apply x _ _ (fun a b => ?_) h w
  rw [mulf_apply, hx, cubic_apply ix (ix2 a b) (k a b) p j hp hj (hk a b), ← EReal.coe_mul]

/-- One entry of the correction of an end plane, for x-rays that are numbers and bins that are whole. -/
theorem fixV_apply (hx : ∀ i j, xr (ix2 i j) = ((x i j : ℝ) : EReal)) (hk : ∀ i j, ix (ix2 i j) = ((k i j : ℝ) : EReal))
    (n n' : ℕ) (near next : BitVec 32) (hn : Ideal.ofBits .f32 near = ((n : ℝ) : EReal)) (hn' : Ideal.ofBits .f32 next = ((n' : ℝ) : EReal))
    (h w : Fin 128) :
    fixV ix xr bandV near next (ix2 h w) = ((plane x (fun a b => corr n n' (k a b)) h w : ℝ) : EReal) := by
  refine spread_apply x _ _ (fun a b => ?_) h w
  rw [mulf_apply, hx, corr_apply ix (ix2 a b) (k a b) n n' near next hn hn' (hk a b), ← EReal.coe_mul]

/-- A plane with zero weights is zero. -/
theorem plane_zero (h w : Fin 128) : plane x (fun _ _ => 0) h w = 0 := by
  unfold plane
  simp only [mul_zero, Finset.sum_const_zero, zero_mul]

/-- One entry of a block. -/
theorem blockV_apply (xs is : FVec Ideal S8x128x128 .f32) (b : Fin 8) (hx : ∀ i j, xs (ix3 b i j) = ((x i j : ℝ) : EReal))
    (hk : ∀ i j, is (ix3 b i j) = ((k i j : ℝ) : EReal)) (p : ℕ) (hp : p < 8) (j : Fin 16) (h w : Fin 128) :
    blockV (F := Ideal) xs is bandV b p (ix4 (0 : Fin 1) j h w)
      = ((plane x (fun a b => wt (p * 16 + j) (k a b)) h w - plane x (fun a b => fix (p * 16 + j) (k a b)) h w : ℝ) : EReal) := by
  have hj := j.isLt
  have cut : ∀ (v : S8x128x128.Idx → EReal) (a c : Fin 128),
      shapeCast S128x128 (slice (F := Ideal) v b) shapeCasts_S1x128x128_S128x128 (ix2 a c) = v (ix3 b a c) := by
    intro v a c
    refine (shapeCast_apply _ _ (ix2 a c : S128x128.Idx) (ix3 (0 : Fin 1) a c : S1x128x128.Idx) ?_).trans rfl
    rw [rowMajor_val3 _ 16384 128 rfl rfl, rowMajor_val2 _ 128 rfl]
    show 0 * 16384 + a.val * 128 + c.val = a.val * 128 + c.val
    omega
  have hx' : ∀ a c, k1_pay6 (F := Ideal) (slice (F := Ideal) xs b) (ix2 a c) = ((x a c : ℝ) : EReal) := fun a c => (cut xs a c).trans (hx a c)
  have hk' : ∀ a c, k1_pay5 (F := Ideal) (slice (F := Ideal) is b) (ix2 a c) = ((k a c : ℝ) : EReal) := fun a c => (cut is a c).trans (hk a c)
  have plain : ∀ (hf : ∀ k, fix (p * 16 + j) k = 0), stackV (F := Ideal) (k1_pay5 (slice is b)) (k1_pay6 (slice xs b)) bandV p (ix4 (0 : Fin 1) j h w)
      = ((plane x (fun a b => wt (p * 16 + j) (k a b)) h w - plane x (fun a b => fix (p * 16 + j) (k a b)) h w : ℝ) : EReal) := by
    intro hf
    simp only [hf]
    rw [plane_zero, sub_zero]
    exact planeV_apply x k _ _ hx' hk' p j hp hj h w
  unfold blockV
  by_cases h0 : p = 0
  · subst h0
    rw [if_pos rfl]
    unfold lessV
    by_cases hj0 : j.val = 0
    · rw [if_pos (show ((ix4 (0 : Fin 1) j h w) 1).val = 0 from hj0)]
      have hf : ∀ k, fix (0 * 16 + j) k = corr 0 1 k := fun k => by
        unfold fix; rw [if_pos (show 0 * 16 + j.val = 0 by omega)]
      simp only [hf]
      rw [EReal.coe_sub, hj0, ← planeV_apply x k _ _ hx' hk' 0 0 hp (by norm_num) h w,
        ← fixV_apply x k _ _ hx' hk' 0 1 0x00000000#32 0x3F800000#32 (by rw [word_zero]; norm_num) (by rw [word_one]; norm_num) h w]
      rfl
    · rw [if_neg (show ¬ ((ix4 (0 : Fin 1) j h w) 1).val = 0 from hj0)]
      exact plain fun k => by
        unfold fix; rw [if_neg (show ¬ 0 * 16 + j.val = 0 by omega), if_neg (show ¬ 0 * 16 + j.val = 127 by omega)]
  · rw [if_neg h0]
    by_cases h7 : p = 7
    · subst h7
      rw [if_pos rfl]
      unfold lessV
      by_cases hj0 : j.val = 15
      · rw [if_pos (show ((ix4 (0 : Fin 1) j h w) 1).val = 15 from hj0)]
        have hf : ∀ k, fix (7 * 16 + j) k = corr 127 126 k := fun k => by
          unfold fix; rw [if_neg (show ¬ 7 * 16 + j.val = 0 by omega), if_pos (show 7 * 16 + j.val = 127 by omega)]
        simp only [hf]
        rw [EReal.coe_sub, hj0, ← planeV_apply x k _ _ hx' hk' 7 15 hp (by norm_num) h w,
          ← fixV_apply x k _ _ hx' hk' 127 126 0x42FE0000#32 0x42FC0000#32 (by rw [word_127]; norm_num) (by rw [word_126]; norm_num) h w]
        rfl
      · rw [if_neg (show ¬ ((ix4 (0 : Fin 1) j h w) 1).val = 15 from hj0)]
        exact plain fun k => by
          unfold fix; rw [if_neg (show ¬ 7 * 16 + j.val = 0 by omega), if_neg (show ¬ 7 * 16 + j.val = 127 by omega)]
    · rw [if_neg h7]
      exact plain fun k => by
        unfold fix; rw [if_neg (show ¬ p * 16 + j.val = 0 by omega), if_neg (show ¬ p * 16 + j.val = 127 by omega)]

/-! ## The result -/

/-- The kernel's result at one entry, where the resized x-ray of its image is real. -/
theorem kernel_value (m : (ℓ : Loc nD τ sig) → Buf (Elt Ideal) ℓ) (ρ : Dev nD → PrngReg) (c : Dev nD) (b : Fin 8) (d h w : Fin 128)
    (hx : ∀ i j, resized (imageOf (m ((c : Thread nD τ).loc main_arg1)) b) i j = ((x i j : ℝ) : EReal)) :
    W6 m ρ c (Proc.devRef .tc main_v34) (ix5 b (0 : Fin 1) d h w)
      = ((plane x (fun i j => wt d (bin (scaled (resized (imageOf (m ((c : Thread nD τ).loc main_arg0)) b) i j)))) h w
          - plane x (fun i j => fix d (bin (scaled (resized (imageOf (m ((c : Thread nD τ).loc main_arg0)) b) i j)))) h w : ℝ) : EReal) := by
  have hd := d.isLt
  rw [W6_out]
  refine (shapeCast_apply _ _ (ix5 b (0 : Fin 1) d h w : S8x1x128x128x128.Idx) (ix4 b d h w : S8x128x128x128.Idx) ?_).trans ?_
  · rw [rowMajor_val4 _ 2097152 16384 128 rfl rfl rfl, rowMajor_val5 _ 2097152 2097152 16384 128 rfl rfl rfl rfl]
    show b.val * 2097152 + d.val * 16384 + h.val * 128 + w.val = b.val * 2097152 + 0 * 2097152 + d.val * 16384 + h.val * 128 + w.val
    omega
  rw [V5_vol, V4_x, V4_ix, V4_cst, V3_v0, V3_v1, V3_v30, V3_v31]
  have e : d.val / 16 * 16 + d.val % 16 = d.val := by omega
  refine (blockV_apply x (fun i j => bin (scaled (resized (imageOf (m ((c : Thread nD τ).loc main_arg0)) b) i j))) _ _ b ?_ ?_
    (d.val / 16) (by omega) ⟨d.val % 16, Nat.mod_lt _ (by decide)⟩ h w).trans ?_
  · intro i j
    exact (resizedV_apply _ b i j).trans (hx i j)
  · intro i j
    exact indexV_apply _ b i j
  · show ((plane x (fun i j => wt (d.val / 16 * 16 + d.val % 16) _) h w - plane x (fun i j => fix (d.val / 16 * 16 + d.val % 16) _) h w : ℝ) : EReal) = _
    rw [e]

end Cert.Splat

end
-- ==== Proof.RefResize.lean ====
/- The reference's resize over the extended reals: the same weights and the same sums as the kernel's. -/
module

public import proofs.«01_k».proof.Proof.Resize
public import proofs.«01_k».proof.Proof.Gen.ReferenceIdeal.Run

@[expose] public section

set_option maxRecDepth 16384

noncomputable section

namespace Cert.Splat.Ref

open Cert.ReferenceIdeal Cert.ReferenceIdeal.Gen Cert.Splat
open Idealize.ShloMosaic hiding ix0 ix1 ix2 ix3 ix4 ix5 ix6
open Idealize.ShloMosaic.TcCoe Idealize.ShloMosaic.ValueIdx
open scoped BigOperators

/-! ## The weights of one axis -/

/-- The reference's sample positions. -/
def posR : FVec Ideal S128 .f32 :=
  subf (subf (mulf (addf (sitofp .f32 (iotaInDim S128 32 0)) (broadcastInDim S128 ![] bcast_S_S128 (constant S_ .f32 0x3F000000#32)))
    (broadcastInDim S128 ![] bcast_S_S128 (constant S_ .f32 0x40800000#32))) (broadcastInDim S128 ![] bcast_S_S128 (constant S_ .f32 0x00000000#32)))
    (broadcastInDim S128 ![] bcast_S_S128 (constant S_ .f32 0x3F000000#32))

/-- Its triangle weights, before they are divided by their totals. -/
def rawR : FVec Ideal S512x128 .f32 :=
  maximumf (broadcastInDim S512x128 ![] bcast_S_S512x128 (constant S_ .f32 0x00000000#32))
    (subf (broadcastInDim S512x128 ![] bcast_S_S512x128 (constant S_ .f32 0x3F800000#32))
      (Host.absf (Host.divf (Host.absf (subf
        (broadcastInDim S512x128 ![0, 1] bcast_S1x128_S512x128_0_1 (broadcastInDim S1x128 ![1] bcast_S128_S1x128_1 posR))
        (broadcastInDim S512x128 ![0, 1] bcast_S512x1_S512x128_0_1 (broadcastInDim S512x1 ![0] bcast_S512_S512x1_0
          (sitofp .f32 (iotaInDim S512 32 0))))))
        (broadcastInDim S512x128 ![] bcast_S_S512x128
          (id (maximumf (constant (F := Ideal) S_ .f32 0x40800000#32) (constant (F := Ideal) S_ .f32 0x3F800000#32)))))))

/-- The totals. -/
def totR : FVec Ideal S1x128 .f32 :=
  broadcastInDim S1x128 ![1] bcast_S128_S1x128_1
    (Host.reduceAdd rawR (constant (F := Ideal) S_ .f32 0x00000000#32) reducesTo_S512x128_S128_d0 h_S_)

/-- The totals with nothing to divide by replaced by one. -/
def divisorR : FVec Ideal S1x128 .f32 :=
  select (cmpf .une totR (broadcastInDim S1x128 ![] bcast_S_S1x128 (constant (F := Ideal) S_ .f32 0x00000000#32))) totR
    (broadcastInDim S1x128 ![] bcast_S_S1x128 (sitofp .f32 (constantI S_ 32 1#32)))

/-- The weights of the sample positions, wherever they lie. -/
def shareR : FVec Ideal S512x128 .f32 :=
  select (broadcastInDim S512x128 ![0, 1] bcast_S1x128_S512x128_0_1
      (cmpf .ogt (Host.absf totR) (broadcastInDim S1x128 ![] bcast_S_S1x128 (constant (F := Ideal) S_ .f32 0x38FA0000#32))))
    (Host.divf rawR (broadcastInDim S512x128 ![0, 1] bcast_S1x128_S512x128_0_1 divisorR))
    (broadcastInDim S512x128 ![] bcast_S_S512x128 (sitofp .f32 (constantI S_ 32 0#32)))

/-- The weights: nothing for a position outside the image. -/
def weightR : FVec Ideal S512x128 .f32 :=
  select (broadcastInDim S512x128 ![0, 1] bcast_S1x128_S512x128_0_1 (broadcastInDim S1x128 ![1] bcast_S128_S1x128_1
      (andi (cmpf .oge posR (broadcastInDim S128 ![] bcast_S_S128 (constant (F := Ideal) S_ .f32 0xBF000000#32)))
        (cmpf .ole posR (broadcastInDim S128 ![] bcast_S_S128 (constant (F := Ideal) S_ .f32 0x43FFC000#32))))))
    shareR (broadcastInDim S512x128 ![] bcast_S_S512x128 (sitofp .f32 (constantI S_ 32 0#32)))

/-- The sampling position of output `o` is `(o + 1/2) * 4 - 1/2`. -/
theorem posR_apply (o : Fin 128) : posR (ix1 o) = ((((o.val : ℝ) + 1 / 2) * 4 - 1 / 2 : ℝ) : EReal) := by
  have e : posR (ix1 o) = (((((BitVec.ofNat 32 o.val).toInt : ℝ) : EReal) + Ideal.ofBits .f32 0x3F000000#32) * Ideal.ofBits .f32 0x40800000#32
      - Ideal.ofBits .f32 0x00000000#32) - Ideal.ofBits .f32 0x3F000000#32 := rfl
  rw [e, word_nat _ (by have := o.isLt; omega), word_half, word_four, word_zero, ← EReal.coe_add, ← EReal.coe_mul, ← EReal.coe_sub,
    ← EReal.coe_sub, sub_zero]

/-- The weights before normalisation are the triangle `wgt`. -/
theorem rawR_apply (i : Fin 512) (o : Fin 128) : rawR (ix2 i o) = ((wgt i o : ℝ) : EReal) := by
  have hp : broadcastInDim S512x128 ![0, 1] bcast_S1x128_S512x128_0_1 (broadcastInDim S1x128 ![1] bcast_S128_S1x128_1 posR) (ix2 i o)
      = posR (ix1 o) := by
    refine congrArg posR (funext fun a => ?_)
    match a with
    | ⟨0, _⟩ => rfl
  have e : rawR (ix2 i o) = max (Ideal.ofBits .f32 0x00000000#32) (Ideal.ofBits .f32 0x3F800000#32
      - max (Ideal.div (max (posR (ix1 o) - (((BitVec.ofNat 32 i.val).toInt : ℝ) : EReal)) (-(posR (ix1 o) - (((BitVec.ofNat 32 i.val).toInt : ℝ) : EReal))))
          (max (Ideal.ofBits .f32 0x40800000#32) (Ideal.ofBits .f32 0x3F800000#32)))
        (-Ideal.div (max (posR (ix1 o) - (((BitVec.ofNat 32 i.val).toInt : ℝ) : EReal)) (-(posR (ix1 o) - (((BitVec.ofNat 32 i.val).toInt : ℝ) : EReal))))
          (max (Ideal.ofBits .f32 0x40800000#32) (Ideal.ofBits .f32 0x3F800000#32)))) := by
    rw [← hp]; rfl
  rw [e, posR_apply, word_zero, word_one, word_four, word_nat _ (by have := i.isLt; omega), ← EReal.coe_sub, coe_abs', coe_max', max_eq_left (by norm_num : (1 : ℝ) ≤ 4),
    coe_div' _ (by norm_num), coe_abs', abs_div, abs_abs, abs_of_pos (by norm_num : (0 : ℝ) < 4), ← EReal.coe_sub, coe_max']
  rfl

/-- The total of the weights of an output is `tot`. -/
theorem totR_apply (o : Fin 128) : totR (ix2 (0 : Fin 1) o) = ((tot o : ℝ) : EReal) := by
  have e : totR (ix2 (0 : Fin 1) o) = Ideal.hostReduceAdd reducesTo_S512x128_S128_d0 rawR (Ideal.ofBits .f32 0x00000000#32) (ix1 o) := by
    refine (congrArg (Ideal.hostReduceAdd reducesTo_S512x128_S128_d0 rawR (Ideal.ofBits .f32 0x00000000#32))
      (?_ : _ = ix1 o))
    funext a
    match a with
    | ⟨0, _⟩ => rfl
  have hr : S512x128.Reduces [0] S128 := by decide
  rw [e, Ideal.hostReduceAdd_single _ hr, word_zero, EReal.coe_zero, zero_add]
  unfold tot
  rw [← coe_sum' fun i : Fin 512 => wgt i o]
  refine Finset.sum_congr rfl fun (i : Fin 512) _ => ?_
  have hl : hr.lift (ix1 o) i = (ix2 i o : S512x128.Idx) := by
    funext a
    match a with
    | ⟨0, _⟩ => rfl
    | ⟨1, _⟩ => rfl
  exact (congrArg rawR hl).trans (rawR_apply i o)

/-- A row spread over the image's rows. -/
theorem row_apply {α : Type} (x : S1x128.Idx → α) (i : Fin 512) (o : Fin 128) :
    broadcastInDim S512x128 ![0, 1] bcast_S1x128_S512x128_0_1 x (ix2 i o) = x (ix2 (0 : Fin 1) o) := by
  refine congrArg x (funext fun a => ?_)
  match a with
  | ⟨0, _⟩ => rfl
  | ⟨1, _⟩ => rfl

/-- The divisor is the total, as no total is zero. -/
theorem divisorR_apply (o : Fin 128) : divisorR (ix2 (0 : Fin 1) o) = ((tot o : ℝ) : EReal) := by
  have e : divisorR (ix2 (0 : Fin 1) o) = Scalar.select (Ideal.cmp .une (totR (ix2 (0 : Fin 1) o)) (Ideal.ofBits .f32 0x00000000#32))
      (totR (ix2 (0 : Fin 1) o)) ((((1#32 : BitVec 32).toInt : ℝ) : EReal)) := rfl
  rw [e, totR_apply, show Ideal.cmp .une ((tot o : ℝ) : EReal) (Ideal.ofBits .f32 0x00000000#32) = 1#1 from ?_, select_one]
  have hne : ((tot o : ℝ) : EReal) ≠ Ideal.ofBits .f32 0x00000000#32 := by
    rw [word_zero]; exact fun h => tot_ne o o.isLt (EReal.coe_eq_coe_iff.mp h)
  show BitVec.ofBool (decide _) = 1#1
  rw [decide_eq_true hne]
  rfl

/-- The quotient of a weight by its total is `share`. -/
theorem shareR_apply (i : Fin 512) (o : Fin 128) : shareR (ix2 i o) = ((share i o : ℝ) : EReal) := by
  have e : shareR (ix2 i o) = Scalar.select (Ideal.cmp .ogt (max (totR (ix2 (0 : Fin 1) o)) (-totR (ix2 (0 : Fin 1) o))) (Ideal.ofBits .f32 0x38FA0000#32))
      (Ideal.div (rawR (ix2 i o)) (divisorR (ix2 (0 : Fin 1) o))) (((0#32 : BitVec 32).toInt : ℝ) : EReal) := by
    unfold shareR
    rw [select_apply, row_apply, hostDivf_apply, row_apply]
    rfl
  have ht := tot_ge o o.isLt
  rw [e, totR_apply, rawR_apply, divisorR_apply, coe_abs', abs_of_pos (by linarith), coe_div' _ (tot_ne o o.isLt)]
  rw [show Ideal.cmp .ogt ((tot o : ℝ) : EReal) (Ideal.ofBits .f32 0x38FA0000#32) = 1#1 from ?_, select_one]
  · rfl
  · have hlt : Ideal.ofBits .f32 0x38FA0000#32 < ((tot o : ℝ) : EReal) := lt_of_lt_of_le word_guard' (EReal.coe_le_coe_iff.mpr ht)
    show BitVec.ofBool (decide _) = 1#1
    rw [decide_eq_true hlt]
    rfl

/-- The weights of the reference are `share`: no sampling position lies outside the image. -/
theorem weightR_apply (i : Fin 512) (o : Fin 128) : weightR (ix2 i o) = ((share i o : ℝ) : EReal) := by
  have hb : ∀ y : S128.Idx → BitVec 1, broadcastInDim S1x128 ![1] bcast_S128_S1x128_1 y (ix2 (0 : Fin 1) o) = y (ix1 o) := by
    intro y
    refine congrArg y (funext fun a => ?_)
    match a with
    | ⟨0, _⟩ => rfl
  have e : weightR (ix2 i o) = Scalar.select (Ideal.cmp .oge (posR (ix1 o)) (Ideal.ofBits .f32 0xBF000000#32)
      &&& Ideal.cmp .ole (posR (ix1 o)) (Ideal.ofBits .f32 0x43FFC000#32))
      (shareR (ix2 i o)) (((0#32 : BitVec 32).toInt : ℝ) : EReal) := by
    unfold weightR
    rw [select_apply, row_apply, hb]
    rfl
  have ho : (o.val : ℝ) ≤ 127 := by have := o.isLt; exact_mod_cast (by omega : o.val ≤ 127)
  have ho' : (0 : ℝ) ≤ o.val := Nat.cast_nonneg _
  rw [e, shareR_apply, posR_apply, word_neg_half, word_edge]
  rw [show Ideal.cmp .oge (((((o.val : ℝ) + 1 / 2) * 4 - 1 / 2 : ℝ)) : EReal) ((-(1 / 2) : ℝ) : EReal) = 1#1 from ?_,
    show Ideal.cmp .ole (((((o.val : ℝ) + 1 / 2) * 4 - 1 / 2 : ℝ)) : EReal) ((1023 / 2 : ℝ) : EReal) = 1#1 from ?_]
  · exact select_one _ _
  · have : ((((o.val : ℝ) + 1 / 2) * 4 - 1 / 2 : ℝ) : EReal) ≤ ((1023 / 2 : ℝ) : EReal) := EReal.coe_le_coe_iff.mpr (by linarith)
    show BitVec.ofBool (decide _) = 1#1
    rw [decide_eq_true this]; rfl
  · have : ((-(1 / 2) : ℝ) : EReal) ≤ ((((o.val : ℝ) + 1 / 2) * 4 - 1 / 2 : ℝ) : EReal) := EReal.coe_le_coe_iff.mpr (by linarith)
    show BitVec.ofBool (decide _) = 1#1
    rw [decide_eq_true this]; rfl

/-! ## The two products -/

/-- The reference's resize of a batch of images. -/
def resizedR (x : FVec Ideal S8x1x512x512 .f32) : FVec Ideal S8x1x128x128 .f32 :=
  Host.dotGeneral dot_S8x1x128x512_S512x128_S8x1x128x128_3_0_012_1_n_n (some .fp32) (transpose S8x1x128x512 [0, 1, 3, 2]
    (Host.dotGeneral dot_S8x1x512x512_S512x128_S8x1x512x128_3_0_012_1_n_n (some .fp32)
      (transpose S8x1x512x512 [0, 1, 3, 2] x transposes_S8x1x512x512_S8x1x512x512_0_1_3_2) weightR)
    transposes_S8x1x512x128_S8x1x128x512_0_1_3_2) weightR

/-- One entry of the product that shrinks the rows is a sum over the rows. -/
theorem rows_apply (x : FVec Ideal S8x1x512x512 .f32) (y : FVec Ideal S512x128 .f32) (b : Fin 8) (j : Fin 512) (h : Fin 128) :
    Host.dotGeneral dot_S8x1x512x512_S512x128_S8x1x512x128_3_0_012_1_n_n (some .fp32) x y (ix4 b (0 : Fin 1) j h)
      = ∑ i : Fin 512, x (ix4 b (0 : Fin 1) j i) * y (ix2 i h) := by
  refine (Ideal.dotGeneral_apply dot_S8x1x512x512_S512x128_S8x1x512x128_3_0_012_1_n_n (some .fp32) _ x y (ix4 b (0 : Fin 1) j h)).trans ?_
  rw [← Equiv.sum_comp (contrEquiv1 dot_S8x1x512x512_S512x128_S8x1x512x128_3_0_012_1_n_n 512 rfl rfl).symm]
  refine Finset.sum_congr rfl fun k _ => ?_
  have hk := contrEquiv1_symm_val dot_S8x1x512x512_S512x128_S8x1x512x128_3_0_012_1_n_n 512 rfl rfl k
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hk
  · match a with
    | ⟨0, _⟩ => exact hk
    | ⟨1, _⟩ => rfl

/-- One entry of the product that shrinks the columns is a sum over the columns. -/
theorem columns_apply (x : FVec Ideal S8x1x128x512 .f32) (y : FVec Ideal S512x128 .f32) (b : Fin 8) (h w : Fin 128) :
    Host.dotGeneral dot_S8x1x128x512_S512x128_S8x1x128x128_3_0_012_1_n_n (some .fp32) x y (ix4 b (0 : Fin 1) h w)
      = ∑ j : Fin 512, x (ix4 b (0 : Fin 1) h j) * y (ix2 j w) := by
  refine (Ideal.dotGeneral_apply dot_S8x1x128x512_S512x128_S8x1x128x128_3_0_012_1_n_n (some .fp32) _ x y (ix4 b (0 : Fin 1) h w)).trans ?_
  rw [← Equiv.sum_comp (contrEquiv1 dot_S8x1x128x512_S512x128_S8x1x128x128_3_0_012_1_n_n 512 rfl rfl).symm]
  refine Finset.sum_congr rfl fun k _ => ?_
  have hk := contrEquiv1_symm_val dot_S8x1x128x512_S512x128_S8x1x128x128_3_0_012_1_n_n 512 rfl rfl k
  refine congrArg₂ (· * ·) (congrArg x (funext fun a => Fin.ext ?_)) (congrArg y (funext fun a => Fin.ext ?_))
  · match a with
    | ⟨0, _⟩ => rfl
    | ⟨1, _⟩ => rfl
    | ⟨2, _⟩ => rfl
    | ⟨3, _⟩ => exact hk
  · match a with
    | ⟨0, _⟩ => exact hk
    | ⟨1, _⟩ => rfl

/-- The reference resizes as the kernel does. -/
theorem resizedR_apply (x : FVec Ideal S8x1x512x512 .f32) (b : Fin 8) (h w : Fin 128) :
    resizedR x (ix4 b (0 : Fin 1) h w) = resized (imageOf x b) h w := by
  unfold resizedR resized
  rw [columns_apply]
  refine Finset.sum_congr rfl fun j _ => ?_
  rw [weightR_apply]
  refine congrArg (· * ((share j w : ℝ) : EReal)) ?_
  have ht : ∀ y : FVec Ideal S8x1x512x128 .f32, transpose S8x1x128x512 [0, 1, 3, 2] y transposes_S8x1x512x128_S8x1x128x512_0_1_3_2
      (ix4 b (0 : Fin 1) h j) = y (ix4 b (0 : Fin 1) j h) := by
    intro y
    refine congrArg y (funext fun a => ?_)
    match a with
    | ⟨0, _⟩ => rfl
    | ⟨1, _⟩ => rfl
    | ⟨2, _⟩ => rfl
    | ⟨3, _⟩ => rfl
  rw [ht, rows_apply]
  refine Finset.sum_congr rfl fun i _ => ?_
  rw [weightR_apply, mul_comm]
  refine congrArg (((share i h : ℝ) : EReal) * ·) ?_
  unfold imageOf
  refine congrArg x (funext fun a => ?_)
  match a with
  | ⟨0, _⟩ => rfl
  | ⟨1, _⟩ => rfl
  | ⟨2, _⟩ => rfl
  | ⟨3, _⟩ => rfl

end Cert.Splat.Ref

end
-- ==== Proof.Taps.lean ====
/- The reference's volume over the extended reals: every pixel of the resized x-ray spread over the five planes around its own. -/
module

public import proofs.«01_k».proof.Proof.RefResize
public import proofs.«01_k».proof.Proof.Spread

@[expose] public section

set_option maxRecDepth 16384

noncomputable section

namespace Cert.Splat.Ref

open Cert.ReferenceIdeal Cert.ReferenceIdeal.Gen Cert.ReferenceIdeal.Value Cert.Splat
open Idealize.ShloMosaic hiding ix0 ix1 ix2 ix3 ix4 ix5 ix6
open Idealize.ShloMosaic.TcCoe Idealize.ShloMosaic.ValueIdx
open scoped BigOperators

/-! ## The scatter -/

/-- The scatter's dimension numbers. -/
abbrev sdims : ScatterDims S8x1x128x128x128 S8x1x128x128x5x5 S8x1x128x128x5 :=
  scatter_S8x1x128x128x128_S8x1x128x128x5x5_S8x1x128x128x5_n_01234_01234_5

/-- The components of an update's place. -/
structure Places (idx : IVec S8x1x128x128x5x5 32) (t : Fin 8 → Fin 128 → Fin 128 → Fin 5 → Fin 128) : Prop where
  c0 : ∀ b h w o, (idx (ix6 b (0 : Fin 1) h w o (0 : Fin 5))).toInt = b.val
  c1 : ∀ b h w o, (idx (ix6 b (0 : Fin 1) h w o (1 : Fin 5))).toInt = 0
  c2 : ∀ b h w o, (idx (ix6 b (0 : Fin 1) h w o (2 : Fin 5))).toInt = h.val
  c3 : ∀ b h w o, (idx (ix6 b (0 : Fin 1) h w o (3 : Fin 5))).toInt = w.val
  c4 : ∀ b h w o, (idx (ix6 b (0 : Fin 1) h w o (4 : Fin 5))).toInt = (t b h w o).val

/-- Along each axis an update lands where its image, row, column and clipped target say. -/
theorem start_eq (idx : IVec S8x1x128x128x5x5 32) (t : Fin 8 → Fin 128 → Fin 128 → Fin 5 → Fin 128) (hp : Places idx t)
    (b : Fin 8) (h w : Fin 128) (o : Fin 5) (a : Fin 5) :
    sdims.start (ix5 b (0 : Fin 1) h w o) idx a + sdims.window (ix5 b (0 : Fin 1) h w o) a
      = ((ix5 b (0 : Fin 1) h w (t b h w o) : S8x1x128x128x128.Idx) a).val := by
  have hs : ∀ c : Fin 5, sdims.siIdx (ix5 b (0 : Fin 1) h w o) c = ix6 b (0 : Fin 1) h w o c := by
    intro c
    funext e
    match e with
    | ⟨0, _⟩ => rfl
    | ⟨1, _⟩ => rfl
    | ⟨2, _⟩ => rfl
    | ⟨3, _⟩ => rfl
    | ⟨4, _⟩ => rfl
    | ⟨5, _⟩ => rfl
  match a with
  | ⟨0, _⟩ => exact (congrArg (fun y => (idx y).toInt + 0) (hs 0)).trans (by rw [hp.c0, add_zero])
  | ⟨1, _⟩ => exact (congrArg (fun y => (idx y).toInt + 0) (hs 1)).trans (by rw [hp.c1, add_zero]; rfl)
  | ⟨2, _⟩ => exact (congrArg (fun y => (idx y).toInt + 0) (hs 2)).trans (by rw [hp.c2, add_zero])
  | ⟨3, _⟩ => exact (congrArg (fun y => (idx y).toInt + 0) (hs 3)).trans (by rw [hp.c3, add_zero])
  | ⟨4, _⟩ => exact (congrArg (fun y => (idx y).toInt + 0) (hs 4)).trans (by rw [hp.c4, add_zero])

/-- Where an update lands. -/
theorem result_eq (idx : IVec S8x1x128x128x5x5 32) (t : Fin 8 → Fin 128 → Fin 128 → Fin 5 → Fin 128) (hp : Places idx t)
    (b : Fin 8) (h w : Fin 128) (o : Fin 5) :
    sdims.resultIdx? (ix5 b (0 : Fin 1) h w o) idx = some (ix5 b (0 : Fin 1) h w (t b h w o)) := by
  have hin : ∀ a, 0 ≤ sdims.start (ix5 b (0 : Fin 1) h w o) idx a + sdims.window (ix5 b (0 : Fin 1) h w o) a
      ∧ sdims.start (ix5 b (0 : Fin 1) h w o) idx a + sdims.window (ix5 b (0 : Fin 1) h w o) a < S8x1x128x128x128.size a := by
    intro a
    have e := start_eq idx t hp b h w o a
    have l : ((ix5 b (0 : Fin 1) h w (t b h w o) : S8x1x128x128x128.Idx) a).val < S8x1x128x128x128.size a :=
      ((ix5 b (0 : Fin 1) h w (t b h w o) : S8x1x128x128x128.Idx) a).isLt
    omega
  unfold ScatterDims.resultIdx?
  rw [dif_pos hin]
  refine congrArg some (funext fun a => Fin.ext ?_)
  show (sdims.start (ix5 b (0 : Fin 1) h w o) idx a + sdims.window (ix5 b (0 : Fin 1) h w o) a).toNat = _
  rw [start_eq idx t hp b h w o a, Int.toNat_natCast]

/-- The scatter at one entry: the updates of its own pixel whose plane is the entry's. -/
theorem scatter_apply (x : FVec Ideal S8x1x128x128x128 .f32) (idx : IVec S8x1x128x128x5x5 32) (upd : FVec Ideal S8x1x128x128x5 .f32)
    (t : Fin 8 → Fin 128 → Fin 128 → Fin 5 → Fin 128) (hp : Places idx t) (b : Fin 8) (h w d : Fin 128) :
    Host.scatterAdd sdims x idx upd (ix5 b (0 : Fin 1) h w d)
      = x (ix5 b (0 : Fin 1) h w d) + ∑ o : Fin 5, if t b h w o = d then upd (ix5 b (0 : Fin 1) h w o) else (0 : EReal) := by
  show x (ix5 b (0 : Fin 1) h w d) + ∑ j ∈ Finset.univ.filter (fun j => sdims.resultIdx? j idx = some (ix5 b (0 : Fin 1) h w d)), upd j = _
  refine congrArg (x (ix5 b (0 : Fin 1) h w d) + ·) ?_
  rw [← Finset.sum_filter (p := fun o : Fin 5 => t b h w o = d) (f := fun o => upd (ix5 b (0 : Fin 1) h w o))]
  have key : ∀ j : S8x1x128x128x5.Idx, sdims.resultIdx? j idx = some (ix5 b (0 : Fin 1) h w d)
      → j = ix5 b (0 : Fin 1) h w (j 4) ∧ t b h w (j 4) = d := by
    intro j hj
    obtain ⟨b', h', w', o', rfl⟩ : ∃ (b' : Fin 8) (h' w' : Fin 128) (o' : Fin 5), j = ix5 b' (0 : Fin 1) h' w' o' := by
      refine ⟨j 0, j 2, j 3, j 4, (ValueIdx.eq_ix5 j).trans ?_⟩
      exact congrArg (fun z : Fin 1 => (ix5 (j 0) z (j 2) (j 3) (j 4) : S8x1x128x128x5.Idx)) (Subsingleton.elim _ _)
    rw [result_eq idx t hp b' h' w' o'] at hj
    have hj' := Option.some.inj hj
    obtain rfl : b' = b := congrFun hj' 0
    obtain rfl : h' = h := congrFun hj' 2
    obtain rfl : w' = w := congrFun hj' 3
    exact ⟨rfl, congrFun hj' 4⟩
  refine Finset.sum_bij' (fun j _ => j 4) (fun o _ => ix5 b (0 : Fin 1) h w o) ?_ ?_ ?_ ?_ ?_
  · intro j hj
    exact Finset.mem_filter.mpr ⟨Finset.mem_univ _, (key j (Finset.mem_filter.mp hj).2).2⟩
  · intro o ho
    refine Finset.mem_filter.mpr ⟨Finset.mem_univ _, ?_⟩
    rw [result_eq idx t hp b h w o, (Finset.mem_filter.mp ho).2]
  · intro j hj
    exact (key j (Finset.mem_filter.mp hj).2).1.symm
  · intro o _
    rfl
  · intro j hj
    exact congrArg upd (key j (Finset.mem_filter.mp hj).2).1

/-! ## The taps -/

/-- The plane of a tap, before it is held inside the volume. -/
def tap (k : ℕ) (o : Fin 5) : BitVec 32 := BitVec.ofNat 32 k + (4294967294#32 + BitVec.ofNat 32 o.val)

/-- The plane of a tap, held inside the volume. -/
def held (k : ℕ) (o : Fin 5) : Fin 128 := ⟨min 127 (k + o.val - 2), by omega⟩

/-- A target clipped as words is the target held between 0 and 127 as a number. -/
theorem held_eq (k : Fin 128) (o : Fin 5) : IntOp.minsi 127#32 (IntOp.maxsi 0#32 (tap k o)) = BitVec.ofNat 32 (held k o).val := by
  revert k o
  decide +kernel

/-- The validity mask as words says whether the target lies in the volume. -/
theorem inside_eq (k : Fin 128) (o : Fin 5) :
    IntOp.cmpi .sge (tap k o) 0#32 &&& IntOp.cmpi .slt (tap k o) 128#32 = if 2 ≤ k.val + o.val ∧ k.val + o.val < 130 then 1#1 else 0#1 := by
  revert k o
  decide +kernel

/-- A coordinate is not negative, so nothing is added to it. -/
theorem kept_eq (a : Fin 128) (n : BitVec 32) :
    Scalar.select (IntOp.cmpi .slt (BitVec.ofNat 32 a.val) 0#32) (IntOp.addi (BitVec.ofNat 32 a.val) n) (BitVec.ofNat 32 a.val) = BitVec.ofNat 32 a.val := by
  have : IntOp.cmpi .slt (BitVec.ofNat 32 a.val) 0#32 = 0#1 := by
    revert a
    decide +kernel
  rw [this]
  exact select_zero _ _

/-- A number below 128, as a word, denotes itself. -/
theorem nat_toInt (a : Fin 128) : (BitVec.ofNat 32 a.val).toInt = a.val := by
  revert a
  decide +kernel

/-- A tap's offset from its pixel's plane. -/
theorem offset_eq (o : Fin 5) : ((4294967294#32 + BitVec.ofNat 32 o.val : BitVec 32).toInt : ℝ) = (o.val : ℝ) - 2 := by
  have : (4294967294#32 + BitVec.ofNat 32 o.val : BitVec 32).toInt = (o.val : ℤ) - 2 := by
    revert o
    decide +kernel
  rw [this]
  push_cast
  rfl

/-- The five taps that land on plane `d`. -/
theorem taps_sum (x : ℝ) (k : ℕ) (hk : k ≤ 127) (d : Fin 128) :
    (∑ o : Fin 5, if held k o = d then x * Real.exp (-(1 / 2) * (((o.val : ℝ) - 2) * ((o.val : ℝ) - 2)))
        * (if 2 ≤ k + o.val ∧ k + o.val < 130 then 1 else 0) else 0)
      = x * bell ((d.val : ℤ) - k) := by
  have hd := d.isLt
  have term : ∀ o : Fin 5, (if held k o = d then x * Real.exp (-(1 / 2) * (((o.val : ℝ) - 2) * ((o.val : ℝ) - 2)))
        * (if 2 ≤ k + o.val ∧ k + o.val < 130 then 1 else 0) else 0)
      = if k + o.val = d.val + 2 then x * Real.exp (-(1 / 2) * (((o.val : ℝ) - 2) * ((o.val : ℝ) - 2))) else 0 := by
    intro o
    by_cases h : k + o.val = d.val + 2
    · rw [if_pos h, if_pos (Fin.ext (show min 127 (k + o.val - 2) = d.val by omega)),
        if_pos (show 2 ≤ k + o.val ∧ k + o.val < 130 by omega), mul_one]
    · rw [if_neg h]
      by_cases h' : 2 ≤ k + o.val ∧ k + o.val < 130
      · rw [if_neg (fun e => h (by have := congrArg Fin.val e; have : min 127 (k + o.val - 2) = d.val := this; omega))]
      · rw [if_neg h', mul_zero, ite_self]
  rw [Finset.sum_congr rfl fun o _ => term o, Fin.sum_univ_five]
  show (if k + 0 = d.val + 2 then x * Real.exp (-(1 / 2) * ((((0 : ℕ) : ℝ) - 2) * (((0 : ℕ) : ℝ) - 2))) else 0)
    + (if k + 1 = d.val + 2 then x * Real.exp (-(1 / 2) * ((((1 : ℕ) : ℝ) - 2) * (((1 : ℕ) : ℝ) - 2))) else 0)
    + (if k + 2 = d.val + 2 then x * Real.exp (-(1 / 2) * ((((2 : ℕ) : ℝ) - 2) * (((2 : ℕ) : ℝ) - 2))) else 0)
    + (if k + 3 = d.val + 2 then x * Real.exp (-(1 / 2) * ((((3 : ℕ) : ℝ) - 2) * (((3 : ℕ) : ℝ) - 2))) else 0)
    + (if k + 4 = d.val + 2 then x * Real.exp (-(1 / 2) * ((((4 : ℕ) : ℝ) - 2) * (((4 : ℕ) : ℝ) - 2))) else 0) = _
  have e0 : Real.exp (-(1 / 2) * ((((0 : ℕ) : ℝ) - 2) * (((0 : ℕ) : ℝ) - 2))) = w2 := by unfold w2; norm_num
  have e1 : Real.exp (-(1 / 2) * ((((1 : ℕ) : ℝ) - 2) * (((1 : ℕ) : ℝ) - 2))) = w1 := by unfold w1; norm_num
  have e2 : Real.exp (-(1 / 2) * ((((2 : ℕ) : ℝ) - 2) * (((2 : ℕ) : ℝ) - 2))) = 1 := by norm_num
  have e3 : Real.exp (-(1 / 2) * ((((3 : ℕ) : ℝ) - 2) * (((3 : ℕ) : ℝ) - 2))) = w1 := by unfold w1; norm_num
  have e4 : Real.exp (-(1 / 2) * ((((4 : ℕ) : ℝ) - 2) * (((4 : ℕ) : ℝ) - 2))) = w2 := by unfold w2; norm_num
  rw [e0, e1, e2, e3, e4]
  unfold bell
  by_cases c0 : k + 0 = d.val + 2
  · rw [if_pos c0, if_neg (by omega), if_neg (by omega), if_neg (by omega), if_neg (by omega), if_neg (by omega), if_neg (by omega), if_pos (by omega)]
    ring
  by_cases c1 : k + 1 = d.val + 2
  · rw [if_neg c0, if_pos c1, if_neg (by omega), if_neg (by omega), if_neg (by omega), if_neg (by omega), if_pos (by omega)]
    ring
  by_cases c2 : k + 2 = d.val + 2
  · rw [if_neg c0, if_neg c1, if_pos c2, if_neg (by omega), if_neg (by omega), if_pos (by omega)]
    ring
  by_cases c3 : k + 3 = d.val + 2
  · rw [if_neg c0, if_neg c1, if_neg c2, if_pos c3, if_neg (by omega), if_neg (by omega), if_pos (by omega)]
    ring
  by_cases c4 : k + 4 = d.val + 2
  · rw [if_neg c0, if_neg c1, if_neg c2, if_neg c3, if_pos c4, if_neg (by omega), if_neg (by omega), if_pos (by omega)]
    ring
  · rw [if_neg c0, if_neg c1, if_neg c2, if_neg c3, if_neg c4, if_neg (by omega), if_neg (by omega), if_neg (by omega)]
    ring

end Cert.Splat.Ref

end
-- ==== Proof.RefVolume.lean ====
/- The reference's volume and its result at one entry over the extended reals. -/
module

public import proofs.«01_k».proof.Proof.Taps

@[expose] public section

set_option maxRecDepth 16384

noncomputable section

namespace Cert.Splat.Ref

open Cert.ReferenceIdeal Cert.ReferenceIdeal.Gen Cert.ReferenceIdeal.Value Cert.Splat
open Idealize.ShloMosaic hiding ix0 ix1 ix2 ix3 ix4 ix5 ix6
open Idealize.ShloMosaic.TcCoe Idealize.ShloMosaic.ValueIdx
open scoped BigOperators

variable (V0 : Valuation τ sig (Elt Ideal))

/-- The depths, as the reference reads them. -/
abbrev depths : FVec Ideal S8x1x512x512 .f32 := V0 (Proc.devRef .tc main_arg0)
/-- The x-ray, as the reference reads it. -/
abbrev xray : FVec Ideal S8x1x512x512 .f32 := V0 (Proc.devRef .tc main_arg1)
/-- The plane of a pixel. -/
def near (b : Fin 8) (h w : Fin 128) : ℕ := bin (scaled (resized (imageOf (depths V0) b) h w))

/-- The bin of a pixel is at most 127. -/
theorem near_le (b : Fin 8) (h w : Fin 128) : near V0 b h w ≤ 127 := bin_le _

/-- The planes of the pixels as integers. -/
def indexR (x : FVec Ideal S8x1x512x512 .f32) : IVec S8x1x128x128 32 :=
  minsi (broadcastInDim S8x1x128x128 ![] bcast_S_S8x1x128x128 (id (constantI S_ 32 127#32)))
    (maxsi (broadcastInDim S8x1x128x128 ![] bcast_S_S8x1x128x128 (id (constantI S_ 32 0#32)))
      (fptosi 32 (mulf (Host.divf (subf (resizedR x) (broadcastInDim S8x1x128x128 ![] bcast_S_S8x1x128x128 (constant S_ .f32 0x00000000#32)))
        (broadcastInDim S8x1x128x128 ![] bcast_S_S8x1x128x128 (constant S_ .f32 0x42C80000#32)))
        (broadcastInDim S8x1x128x128 ![] bcast_S_S8x1x128x128 (constant S_ .f32 0x42FE0000#32)))))

/-- Truncating the scaled depth and clipping it gives the bin of the scaled depth. -/
theorem indexR_apply (x : FVec Ideal S8x1x512x512 .f32) (b : Fin 8) (h w : Fin 128) :
    indexR x (ix4 b (0 : Fin 1) h w) = BitVec.ofNat 32 (bin (scaled (resized (imageOf x b) h w))) := by
  have e : indexR x (ix4 b (0 : Fin 1) h w) = IntOp.minsi 127#32 (IntOp.maxsi 0#32 (Ideal.fptosi 32
      (Ideal.div (resizedR x (ix4 b (0 : Fin 1) h w) - Ideal.ofBits .f32 0x00000000#32) (Ideal.ofBits .f32 0x42C80000#32)
        * Ideal.ofBits .f32 0x42FE0000#32))) := rfl
  rw [e, resizedR_apply, word_zero, word_100, word_127]
  exact bin_trunc _

/-- The targets are the bins plus the offsets. -/
theorem v28_eq : res_main_v28 V0 = addi
    (broadcastInDim S8x1x128x128x5 ![0, 1, 2, 3, 4] bcast_S8x1x128x128x1_S8x1x128x128x5_0_1_2_3_4
      (broadcastInDim S8x1x128x128x1 ![0, 1, 2, 3] bcast_S8x1x128x128_S8x1x128x128x1_0_1_2_3 (indexR (depths V0))))
    (broadcastInDim S8x1x128x128x5 ![0, 1, 2, 3, 4] bcast_S1x1x1x1x5_S8x1x128x128x5_0_1_2_3_4
      (broadcastInDim S1x1x1x1x5 ![4] bcast_S5_S1x1x1x1x5_4 (res_main_v18 V0))) := rfl

/-- A pixel's array read at a tap. -/
theorem pixel_apply {α : Type} (y : S8x1x128x128.Idx → α) (b : Fin 8) (h w : Fin 128) (o : Fin 5) :
    broadcastInDim S8x1x128x128x5 ![0, 1, 2, 3, 4] bcast_S8x1x128x128x1_S8x1x128x128x5_0_1_2_3_4
      (broadcastInDim S8x1x128x128x1 ![0, 1, 2, 3] bcast_S8x1x128x128_S8x1x128x128x1_0_1_2_3 y) (ix5 b (0 : Fin 1) h w o)
      = y (ix4 b (0 : Fin 1) h w) := by
  refine congrArg y (funext fun a => ?_)
  match a with
  | ⟨0, _⟩ => rfl
  | ⟨1, _⟩ => rfl
  | ⟨2, _⟩ => rfl
  | ⟨3, _⟩ => rfl

/-- A tap's array read at a tap. -/
theorem five_apply {α : Type} (y : S5.Idx → α) (b : Fin 8) (h w : Fin 128) (o : Fin 5) :
    broadcastInDim S8x1x128x128x5 ![0, 1, 2, 3, 4] bcast_S1x1x1x1x5_S8x1x128x128x5_0_1_2_3_4
      (broadcastInDim S1x1x1x1x5 ![4] bcast_S5_S1x1x1x1x5_4 y) (ix5 b (0 : Fin 1) h w o) = y (ix1 o) := by
  refine congrArg y (funext fun a => ?_)
  match a with
  | ⟨0, _⟩ => rfl

/-- One target is the bin of its pixel plus one of the five offsets. -/
theorem v28_apply (b : Fin 8) (h w : Fin 128) (o : Fin 5) : res_main_v28 V0 (ix5 b (0 : Fin 1) h w o) = tap (near V0 b h w) o := by
  rw [v28_eq]
  show _ + _ = _
  rw [pixel_apply, five_apply, indexR_apply]
  rfl

/-- One clipped target is the target held between 0 and 127. -/
theorem v34_apply (b : Fin 8) (h w : Fin 128) (o : Fin 5) :
    res_main_v34 V0 (ix5 b (0 : Fin 1) h w o) = BitVec.ofNat 32 (held (near V0 b h w) o).val := by
  have e : res_main_v34 V0 (ix5 b (0 : Fin 1) h w o) = IntOp.minsi 127#32 (IntOp.maxsi 0#32 (res_main_v28 V0 (ix5 b (0 : Fin 1) h w o))) := rfl
  rw [e, v28_apply]
  exact held_eq ⟨near V0 b h w, by have := near_le V0 b h w; omega⟩ o

/-- The places of the updates whose planes are `y`. -/
def placesR (y : IVec S8x1x128x128x5 32) : IVec S8x1x128x128x5x5 32 :=
  concatenate S8x1x128x128x5x5 5 [
    ⟨S8x1x128x128x5x1, (broadcastInDim S8x1x128x128x5x1 ![0, 1, 2, 3, 4] bcast_S8x1x128x128x5_S8x1x128x128x5x1_0_1_2_3_4
      (broadcastInDim S8x1x128x128x5 ![0, 1, 2, 3, 4] bcast_S8x1x1x1x1_S8x1x128x128x5_0_1_2_3_4
        (select (cmpi .slt (res_main_v43 V0) (broadcastInDim S8x1x1x1x1 ![] bcast_S_S8x1x1x1x1 (constantI S_ 32 0#32)))
          (addi (res_main_v43 V0) (broadcastInDim S8x1x1x1x1 ![] bcast_S_S8x1x1x1x1 (constantI S_ 32 8#32))) (res_main_v43 V0))))⟩,
    ⟨S8x1x128x128x5x1, (broadcastInDim S8x1x128x128x5x1 ![0, 1, 2, 3, 4] bcast_S8x1x128x128x5_S8x1x128x128x5x1_0_1_2_3_4
      (id (broadcastInDim S8x1x128x128x5 ![] bcast_S_S8x1x128x128x5 (constantI S_ 32 0#32))))⟩,
    ⟨S8x1x128x128x5x1, (broadcastInDim S8x1x128x128x5x1 ![0, 1, 2, 3, 4] bcast_S8x1x128x128x5_S8x1x128x128x5x1_0_1_2_3_4
      (broadcastInDim S8x1x128x128x5 ![0, 1, 2, 3, 4] bcast_S1x1x128x1x1_S8x1x128x128x5_0_1_2_3_4
        (select (cmpi .slt (res_main_v45 V0) (broadcastInDim S1x1x128x1x1 ![] bcast_S_S1x1x128x1x1 (constantI S_ 32 0#32)))
          (addi (res_main_v45 V0) (broadcastInDim S1x1x128x1x1 ![] bcast_S_S1x1x128x1x1 (constantI S_ 32 128#32))) (res_main_v45 V0))))⟩,
    ⟨S8x1x128x128x5x1, (broadcastInDim S8x1x128x128x5x1 ![0, 1, 2, 3, 4] bcast_S8x1x128x128x5_S8x1x128x128x5x1_0_1_2_3_4
      (broadcastInDim S8x1x128x128x5 ![0, 1, 2, 3, 4] bcast_S1x1x1x128x1_S8x1x128x128x5_0_1_2_3_4
        (select (cmpi .slt (res_main_v47 V0) (broadcastInDim S1x1x1x128x1 ![] bcast_S_S1x1x1x128x1 (constantI S_ 32 0#32)))
          (addi (res_main_v47 V0) (broadcastInDim S1x1x1x128x1 ![] bcast_S_S1x1x1x128x1 (constantI S_ 32 128#32))) (res_main_v47 V0))))⟩,
    ⟨S8x1x128x128x5x1, (broadcastInDim S8x1x128x128x5x1 ![0, 1, 2, 3, 4] bcast_S8x1x128x128x5_S8x1x128x128x5x1_0_1_2_3_4
      (select (cmpi .slt y (broadcastInDim S8x1x128x128x5 ![] bcast_S_S8x1x128x128x5 (constantI S_ 32 0#32)))
        (addi y (broadcastInDim S8x1x128x128x5 ![] bcast_S_S8x1x128x128x5 (constantI S_ 32 128#32))) y))⟩]
    concatenates_S8x1x128x128x5x1_S8x1x128x128x5x1_S8x1x128x128x5x1_S8x1x128x128x5x1_S8x1x128x128x5x1_S8x1x128x128x5x5_d5

/-- The last of five columns put side by side. -/
theorem last_column (x0 x1 x2 x3 x4 : IVec S8x1x128x128x5x1 32) (b : Fin 8) (h w : Fin 128) (o : Fin 5) :
    concatenate S8x1x128x128x5x5 5 [⟨S8x1x128x128x5x1, x0⟩, ⟨S8x1x128x128x5x1, x1⟩, ⟨S8x1x128x128x5x1, x2⟩, ⟨S8x1x128x128x5x1, x3⟩,
        ⟨S8x1x128x128x5x1, x4⟩]
      concatenates_S8x1x128x128x5x1_S8x1x128x128x5x1_S8x1x128x128x5x1_S8x1x128x128x5x1_S8x1x128x128x5x1_S8x1x128x128x5x5_d5
      (ix6 b (0 : Fin 1) h w o (4 : Fin 5)) = x4 (ix6 b (0 : Fin 1) h w o (0 : Fin 1)) := by
  refine congrArg x4 (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The plane an update lands on. -/
theorem placesR_last (y : IVec S8x1x128x128x5 32) (b : Fin 8) (h w : Fin 128) (o : Fin 5) :
    placesR V0 y (ix6 b (0 : Fin 1) h w o (4 : Fin 5)) = Scalar.select (IntOp.cmpi .slt (y (ix5 b (0 : Fin 1) h w o)) 0#32)
      (IntOp.addi (y (ix5 b (0 : Fin 1) h w o)) 128#32) (y (ix5 b (0 : Fin 1) h w o)) := by
  have hj : ∀ z : IVec S8x1x128x128x5 32, broadcastInDim S8x1x128x128x5x1 ![0, 1, 2, 3, 4] bcast_S8x1x128x128x5_S8x1x128x128x5x1_0_1_2_3_4 z
      (ix6 b (0 : Fin 1) h w o (0 : Fin 1)) = z (ix5 b (0 : Fin 1) h w o) := by
    intro z
    refine congrArg z (funext fun a => ?_)
    match a with
    | ⟨0, _⟩ => rfl
    | ⟨1, _⟩ => rfl
    | ⟨2, _⟩ => rfl
    | ⟨3, _⟩ => rfl
    | ⟨4, _⟩ => rfl
  have e : select (cmpi .slt y (broadcastInDim S8x1x128x128x5 ![] bcast_S_S8x1x128x128x5 (constantI S_ 32 0#32)))
      (addi y (broadcastInDim S8x1x128x128x5 ![] bcast_S_S8x1x128x128x5 (constantI S_ 32 128#32))) y (ix5 b (0 : Fin 1) h w o)
      = Scalar.select (IntOp.cmpi .slt (y (ix5 b (0 : Fin 1) h w o)) 0#32)
      (IntOp.addi (y (ix5 b (0 : Fin 1) h w o)) 128#32) (y (ix5 b (0 : Fin 1) h w o)) := rfl
  exact (last_column _ _ _ _ _ b h w o).trans ((hj _).trans e)

/-- The index array of the scatter names, for each update, its image, row, column and clipped target. -/
theorem places : Places (placesR V0 (res_main_v34 V0)) (fun b h w o => held (near V0 b h w) o) where
  c0 b h w o := by
    have e : placesR V0 (res_main_v34 V0) (ix6 b (0 : Fin 1) h w o (0 : Fin 5)) = Scalar.select (IntOp.cmpi .slt (BitVec.ofNat 32 b.val) 0#32)
      (IntOp.addi (BitVec.ofNat 32 b.val) 8#32) (BitVec.ofNat 32 b.val) := rfl
    have hb := b.isLt
    rw [e, kept_eq ⟨b.val, by omega⟩]
    exact nat_toInt ⟨b.val, by omega⟩
  c1 b h w o := by
    have e : placesR V0 (res_main_v34 V0) (ix6 b (0 : Fin 1) h w o (1 : Fin 5)) = 0#32 := rfl
    rw [e]; rfl
  c2 b h w o := by
    have e : placesR V0 (res_main_v34 V0) (ix6 b (0 : Fin 1) h w o (2 : Fin 5)) = Scalar.select (IntOp.cmpi .slt (BitVec.ofNat 32 h.val) 0#32)
      (IntOp.addi (BitVec.ofNat 32 h.val) 128#32) (BitVec.ofNat 32 h.val) := rfl
    rw [e, kept_eq h]
    exact nat_toInt h
  c3 b h w o := by
    have e : placesR V0 (res_main_v34 V0) (ix6 b (0 : Fin 1) h w o (3 : Fin 5)) = Scalar.select (IntOp.cmpi .slt (BitVec.ofNat 32 w.val) 0#32)
      (IntOp.addi (BitVec.ofNat 32 w.val) 128#32) (BitVec.ofNat 32 w.val) := rfl
    rw [e, kept_eq w]
    exact nat_toInt w
  c4 b h w o := by
    rw [placesR_last, v34_apply, kept_eq]
    exact nat_toInt _

/-- The updates. -/
def updatesR : FVec Ideal S8x1x128x128x5 .f32 :=
  mulf (mulf (broadcastInDim S8x1x128x128x5 ![0, 1, 2, 3, 4] bcast_S8x1x128x128x1_S8x1x128x128x5_0_1_2_3_4
      (broadcastInDim S8x1x128x128x1 ![0, 1, 2, 3] bcast_S8x1x128x128_S8x1x128x128x1_0_1_2_3 (resizedR (xray V0))))
    (broadcastInDim S8x1x128x128x5 ![0, 1, 2, 3, 4] bcast_S1x1x1x1x5_S8x1x128x128x5_0_1_2_3_4
      (broadcastInDim S1x1x1x1x5 ![4] bcast_S5_S1x1x1x1x5_4
        (Host.exp (mulf (broadcastInDim S5 ![] bcast_S_S5 (constant S_ .f32 0xBF000000#32)) (mulf (res_main_v19 V0) (res_main_v19 V0)))))))
    (uitofp .f32 (andi (cmpi .sge (res_main_v28 V0) (broadcastInDim S8x1x128x128x5 ![] bcast_S_S8x1x128x128x5 (constantI S_ 32 0#32)))
      (cmpi .slt (res_main_v28 V0) (broadcastInDim S8x1x128x128x5 ![] bcast_S_S8x1x128x128x5 (constantI S_ 32 128#32)))))

/-- The volume is the scatter-add of the updates into zeros. -/
theorem v80_eq : res_main_v80 V0 = Host.scatterAdd sdims
    (broadcastInDim S8x1x128x128x128 ![] bcast_S_S8x1x128x128x128 (constant S_ .f32 0x00000000#32)) (placesR V0 (res_main_v34 V0)) (updatesR V0) := rfl

/-- One update, where the resized x-ray is real. -/
theorem updates_apply (x : ℝ) (b : Fin 8) (h w : Fin 128) (o : Fin 5) (hx : resized (imageOf (xray V0) b) h w = ((x : ℝ) : EReal)) :
    updatesR V0 (ix5 b (0 : Fin 1) h w o) = ((x * Real.exp (-(1 / 2) * (((o.val : ℝ) - 2) * ((o.val : ℝ) - 2)))
      * (if 2 ≤ near V0 b h w + o.val ∧ near V0 b h w + o.val < 130 then 1 else 0) : ℝ) : EReal) := by
  have hg : ∀ y : FVec Ideal S5 .f32, y (ix1 o) = (((o.val : ℝ) - 2 : ℝ) : EReal) →
      Host.exp (F := Ideal) (mulf (broadcastInDim S5 ![] bcast_S_S5 (constant S_ .f32 0xBF000000#32)) (mulf y y)) (ix1 o)
        = ((Real.exp (-(1 / 2) * (((o.val : ℝ) - 2) * ((o.val : ℝ) - 2))) : ℝ) : EReal) := by
    intro y hy
    have e : Host.exp (F := Ideal) (mulf (broadcastInDim S5 ![] bcast_S_S5 (constant S_ .f32 0xBF000000#32)) (mulf y y)) (ix1 o)
      = Ideal.exp (Ideal.ofBits .f32 0xBF000000#32 * (y (ix1 o) * y (ix1 o))) := rfl
    rw [e, hy, word_neg_half, ← EReal.coe_mul, ← EReal.coe_mul, Ideal.exp_coe]
  have h19 : (res_main_v19 V0 : FVec Ideal S5 .f32) (ix1 o) = (((o.val : ℝ) - 2 : ℝ) : EReal) := by
    rw [← offset_eq o]; rfl
  have hv : uitofp (F := Ideal) .f32 (andi (cmpi .sge (res_main_v28 V0) (broadcastInDim S8x1x128x128x5 ![] bcast_S_S8x1x128x128x5 (constantI S_ 32 0#32)))
      (cmpi .slt (res_main_v28 V0) (broadcastInDim S8x1x128x128x5 ![] bcast_S_S8x1x128x128x5 (constantI S_ 32 128#32)))) (ix5 b (0 : Fin 1) h w o)
      = ((if 2 ≤ near V0 b h w + o.val ∧ near V0 b h w + o.val < 130 then 1 else 0 : ℝ) : EReal) := by
    have e : uitofp (F := Ideal) .f32 (andi (cmpi .sge (res_main_v28 V0) (broadcastInDim S8x1x128x128x5 ![] bcast_S_S8x1x128x128x5 (constantI S_ 32 0#32)))
      (cmpi .slt (res_main_v28 V0) (broadcastInDim S8x1x128x128x5 ![] bcast_S_S8x1x128x128x5 (constantI S_ 32 128#32)))) (ix5 b (0 : Fin 1) h w o)
      = ((((IntOp.cmpi .sge (res_main_v28 V0 (ix5 b (0 : Fin 1) h w o)) 0#32 &&& IntOp.cmpi .slt (res_main_v28 V0 (ix5 b (0 : Fin 1) h w o)) 128#32).toNat : ℝ)) : EReal) := rfl
    have hin := inside_eq ⟨near V0 b h w, by have := near_le V0 b h w; omega⟩ o
    rw [e, v28_apply]
    rw [show IntOp.cmpi .sge (tap (near V0 b h w) o) 0#32 &&& IntOp.cmpi .slt (tap (near V0 b h w) o) 128#32
      = if 2 ≤ near V0 b h w + o.val ∧ near V0 b h w + o.val < 130 then 1#1 else 0#1 from hin]
    split
    · norm_num
    · norm_num
  unfold updatesR
  rw [ValueIdx.mulf_apply, ValueIdx.mulf_apply, pixel_apply, five_apply, hv, hg _ h19, resizedR_apply, hx, ← EReal.coe_mul, ← EReal.coe_mul]

/-- The volume at one entry, where the resized x-ray is real. -/
theorem volume_apply (x : ℝ) (b : Fin 8) (h w d : Fin 128) (hx : resized (imageOf (xray V0) b) h w = ((x : ℝ) : EReal)) :
    res_main_v80 V0 (ix5 b (0 : Fin 1) h w d) = ((x * bell ((d.val : ℤ) - near V0 b h w) : ℝ) : EReal) := by
  rw [v80_eq]
  refine (scatter_apply _ _ _ _ (places V0) b h w d).trans ?_
  have hz : broadcastInDim S8x1x128x128x128 ![] bcast_S_S8x1x128x128x128 (constant (F := Ideal) S_ .f32 0x00000000#32) (ix5 b (0 : Fin 1) h w d)
      = (0 : EReal) := by
    show Ideal.ofBits .f32 0x00000000#32 = 0
    rw [word_zero]; rfl
  rw [hz, zero_add, ← taps_sum x (near V0 b h w) (near_le V0 b h w) d,
    ← coe_sum' fun o : Fin 5 => if held (near V0 b h w) o = d then x * Real.exp (-(1 / 2) * (((o.val : ℝ) - 2) * ((o.val : ℝ) - 2)))
        * (if 2 ≤ near V0 b h w + o.val ∧ near V0 b h w + o.val < 130 then 1 else 0) else 0]
  refine Finset.sum_congr rfl fun o _ => ?_
  rw [updates_apply V0 x b h w o hx]
  split
  · rfl
  · rw [EReal.coe_zero]

end Cert.Splat.Ref

end
-- ==== Proof.Pool.lean ====
/- The reference's average over the cells around an entry, and its result in the kernel's terms. -/
module

public import proofs.«01_k».proof.Proof.RefVolume

@[expose] public section

set_option maxRecDepth 16384

noncomputable section

namespace Cert.Splat.Ref

open Cert.ReferenceIdeal Cert.ReferenceIdeal.Gen Cert.ReferenceIdeal.Value Cert.Splat
open Idealize.ShloMosaic hiding ix0 ix1 ix2 ix3 ix4 ix5 ix6
open Idealize.ShloMosaic.TcCoe Idealize.ShloMosaic.ValueIdx
open scoped BigOperators

/-! ## The window's sum -/

/-- A row read at a place shifted by one, nothing outside. -/
def out (f : Fin 128 → ℝ) (n : ℕ) : ℝ := if hr : 1 ≤ n ∧ n - 1 < 128 then f ⟨n - 1, hr.2⟩ else 0

/-- Inside the border `out` is the function shifted by one. -/
theorem out_pos (f : Fin 128 → ℝ) (n : ℕ) (h : 1 ≤ n ∧ n - 1 < 128) : out f n = f ⟨n - 1, h.2⟩ := dif_pos h

/-- On the border `out` is zero. -/
theorem out_neg (f : Fin 128 → ℝ) (n : ℕ) (h : ¬ (1 ≤ n ∧ n - 1 < 128)) : out f n = 0 := dif_neg h

/-- Padding a sum is summing the padded functions. -/
theorem out_sum {n : ℕ} (f : Fin n → Fin 128 → ℝ) (p : ℕ) : ∑ b, out (f b) p = out (fun i => ∑ b, f b i) p := by
  unfold out
  by_cases h : 1 ≤ p ∧ p - 1 < 128
  · simp only [dif_pos h]
  · simp only [dif_neg h, Finset.sum_const_zero]

/-- Three neighbours along every axis, by the bands. -/
theorem bands_sum (Y : Fin 128 → Fin 128 → Fin 128 → ℝ) (d h w : ℕ) :
    ∑ a : Fin 3, ∑ b : Fin 3, ∑ c : Fin 3, out (fun d' => out (fun i => out (fun j => Y d' i j) (w + c)) (h + b)) (d + a)
      = ∑ d' : Fin 128, band d d' * ∑ i : Fin 128, band h i * ∑ j : Fin 128, band w j * Y d' i j := by
  have hb : ∀ (n : ℕ) (f : Fin 128 → ℝ), ∑ i : Fin 128, band n i * f i = ∑ a : Fin 3, out f (n + a) := fun n f => sum_band n f
  simp only [hb]
  refine Finset.sum_congr rfl fun a _ => ?_
  rw [← out_sum]
  refine Finset.sum_congr rfl fun b _ => ?_
  rw [out_sum]
  refine congrArg (fun f => out f (d + a)) (funext fun d' => ?_)
  exact out_sum (fun c i => out (fun j => Y d' i j) (w + c)) (h + b)

/-- A running sum is a sum. -/
theorem foldl_sum {n : ℕ} (f : Fin n → EReal) : (List.finRange n).foldl (fun r k => r + f k) 0 = ∑ k, f k := by
  rw [Fin.sum_univ_def, List.sum_eq_foldl, List.foldl_map]

/-- The window's shape. -/
abbrev W : Shape := ⟨5, ![1, 1, 3, 3, 3]⟩

/-- The window's places. -/
def places3 : Fin 3 × Fin 3 × Fin 3 ≃ W.Idx where
  toFun p := ix5 (0 : Fin 1) (0 : Fin 1) p.1 p.2.1 p.2.2
  invFun q := (q 2, q 3, q 4)
  left_inv _ := rfl
  right_inv q := by
    refine Eq.trans ?_ (ValueIdx.eq_ix5 q).symm
    exact congrArg₂ (fun y z : Fin 1 => (ix5 y z (q 2) (q 3) (q 4) : W.Idx)) (Subsingleton.elim _ _) (Subsingleton.elim _ _)

/-- A sum over the places of the window is a triple sum. -/
theorem sum_places (f : W.Idx → EReal) : ∑ q, f q = ∑ a : Fin 3, ∑ b : Fin 3, ∑ c : Fin 3, f (ix5 (0 : Fin 1) (0 : Fin 1) a b c) := by
  rw [← Equiv.sum_comp places3, Fintype.sum_prod_type]
  refine Finset.sum_congr rfl fun a _ => ?_
  rw [Fintype.sum_prod_type]
  rfl

/-- The reference's window sum at one entry of a volume that is real. -/
theorem window_apply (y : FVec Ideal S8x1x128x128x128 .f32) (v : FVec Ideal S_ .f32) (b : Fin 8) (Y : Fin 128 → Fin 128 → Fin 128 → ℝ)
    (hy : ∀ d h w, y (ix5 b (0 : Fin 1) d h w) = ((Y d h w : ℝ) : EReal)) (hv : ∀ i, v i = (0 : EReal)) (d h w : Fin 128) :
    Host.reduceWindowAdd ![1, 1, 3, 3, 3] ![1, 1, 1, 1, 1] ![0, 0, 1, 1, 1] ![0, 0, 1, 1, 1] y v
        reduceWindows_S8x1x128x128x128_S8x1x128x128x128_w1s1p0_0_w1s1p0_0_w3s1p1_1_w3s1p1_1_w3s1p1_1 h_S_ (ix5 b (0 : Fin 1) d h w)
      = ((∑ d' : Fin 128, band d d' * ∑ i : Fin 128, band h i * ∑ j : Fin 128, band w j * Y d' i j : ℝ) : EReal) := by
  let p : W.Idx → Fin 5 → ℕ := fun q a => ((ix5 b (0 : Fin 1) d h w : S8x1x128x128x128.Idx) a).val * (![1, 1, 1, 1, 1] : Fin 5 → ℕ) a + (q a).val
  let f : W.Idx → EReal := fun q =>
    if hin : ∀ a : Fin 5, (![0, 0, 1, 1, 1] : Fin 5 → ℕ) a ≤ p q a ∧ p q a - (![0, 0, 1, 1, 1] : Fin 5 → ℕ) a < S8x1x128x128x128.size a then
      y (fun a => ⟨p q a - (![0, 0, 1, 1, 1] : Fin 5 → ℕ) a, (hin a).2⟩) else v (Shape.Idx.first h_S_)
  have e : Host.reduceWindowAdd ![1, 1, 3, 3, 3] ![1, 1, 1, 1, 1] ![0, 0, 1, 1, 1] ![0, 0, 1, 1, 1] y v
        reduceWindows_S8x1x128x128x128_S8x1x128x128x128_w1s1p0_0_w1s1p0_0_w3s1p1_1_w3s1p1_1_w3s1p1_1 h_S_ (ix5 b (0 : Fin 1) d h w)
      = (List.finRange W.numel).foldl (fun r n => r + f (W.rowMajor.symm n)) (v (Shape.Idx.first h_S_)) := by
    unfold Host.reduceWindowAdd
    rw [Ideal.hostReduceWindowAdd_def]
    unfold Ideal.hostReduceWindowAdd Host.reduceWindow
    refine congrArg (fun F : EReal → Fin W.numel → EReal => List.foldl F (v (Shape.Idx.first h_S_)) (List.finRange W.numel))
      (funext fun r => funext fun n => congrArg (r + ·) ?_)
    by_cases hin : ∀ a : Fin 5, (![0, 0, 1, 1, 1] : Fin 5 → ℕ) a ≤ p (W.rowMajor.symm n) a
        ∧ p (W.rowMajor.symm n) a - (![0, 0, 1, 1, 1] : Fin 5 → ℕ) a < S8x1x128x128x128.size a
    · have ef : f (W.rowMajor.symm n) = y (fun a => ⟨p (W.rowMajor.symm n) a - (![0, 0, 1, 1, 1] : Fin 5 → ℕ) a, (hin a).2⟩) := dif_pos hin
      exact (dif_pos hin).trans ef.symm
    · have ef : f (W.rowMajor.symm n) = v (Shape.Idx.first h_S_) := dif_neg hin
      exact (dif_neg hin).trans ef.symm
  have hf : ∀ a c g : Fin 3, f (ix5 (0 : Fin 1) (0 : Fin 1) a c g)
      = ((out (fun d' => out (fun i => out (fun j => Y d' i j) (w + g)) (h + c)) (d + a) : ℝ) : EReal) := by
    intro a c g
    have p0 : p (ix5 (0 : Fin 1) (0 : Fin 1) a c g) 0 = b.val := by show b.val * 1 + 0 = _; omega
    have p1 : p (ix5 (0 : Fin 1) (0 : Fin 1) a c g) 1 = 0 := by show 0 * 1 + 0 = _; omega
    have p2 : p (ix5 (0 : Fin 1) (0 : Fin 1) a c g) 2 = d.val + a.val := by show d.val * 1 + a.val = _; omega
    have p3 : p (ix5 (0 : Fin 1) (0 : Fin 1) a c g) 3 = h.val + c.val := by show h.val * 1 + c.val = _; omega
    have p4 : p (ix5 (0 : Fin 1) (0 : Fin 1) a c g) 4 = w.val + g.val := by show w.val * 1 + g.val = _; omega
    generalize hq : (ix5 (0 : Fin 1) (0 : Fin 1) a c g : W.Idx) = q at p0 p1 p2 p3 p4
    by_cases hin : ∀ a : Fin 5, (![0, 0, 1, 1, 1] : Fin 5 → ℕ) a ≤ p q a ∧ p q a - (![0, 0, 1, 1, 1] : Fin 5 → ℕ) a < S8x1x128x128x128.size a
    · have hd : 1 ≤ d.val + a.val ∧ d.val + a.val - 1 < 128 := by rw [← p2]; exact hin 2
      have hh : 1 ≤ h.val + c.val ∧ h.val + c.val - 1 < 128 := by rw [← p3]; exact hin 3
      have hw : 1 ≤ w.val + g.val ∧ w.val + g.val - 1 < 128 := by rw [← p4]; exact hin 4
      have ef : f q = y (fun a => ⟨p q a - (![0, 0, 1, 1, 1] : Fin 5 → ℕ) a, (hin a).2⟩) := dif_pos hin
      have eo : out (fun d' => out (fun i => out (fun j => Y d' i j) (w + g)) (h + c)) (d + a)
          = Y ⟨d.val + a.val - 1, hd.2⟩ ⟨h.val + c.val - 1, hh.2⟩ ⟨w.val + g.val - 1, hw.2⟩ := by
        rw [out_pos _ _ hd, out_pos _ _ hh, out_pos _ _ hw]
      rw [ef, eo, ← hy]
      refine congrArg y (funext fun e => Fin.ext ?_)
      match e with
      | ⟨0, _⟩ => show p q 0 - 0 = b.val; rw [p0]; omega
      | ⟨1, _⟩ => show p q 1 - 0 = 0; rw [p1]
      | ⟨2, _⟩ => show p q 2 - 1 = d.val + a.val - 1; rw [p2]
      | ⟨3, _⟩ => show p q 3 - 1 = h.val + c.val - 1; rw [p3]
      | ⟨4, _⟩ => show p q 4 - 1 = w.val + g.val - 1; rw [p4]
    · have ef : f q = v (Shape.Idx.first h_S_) := dif_neg hin
      have eo : out (fun d' => out (fun i => out (fun j => Y d' i j) (w + g)) (h + c)) (d + a) = 0 := by
        by_cases hd : 1 ≤ d.val + a.val ∧ d.val + a.val - 1 < 128
        · by_cases hh : 1 ≤ h.val + c.val ∧ h.val + c.val - 1 < 128
          · by_cases hw : 1 ≤ w.val + g.val ∧ w.val + g.val - 1 < 128
            · refine absurd (fun e => ?_) hin
              match e with
              | ⟨0, _⟩ =>
                show 0 ≤ p q 0 ∧ p q 0 - 0 < 8
                have := b.isLt
                rw [p0]; omega
              | ⟨1, _⟩ => show 0 ≤ p q 1 ∧ p q 1 - 0 < 1; rw [p1]; omega
              | ⟨2, _⟩ => show 1 ≤ p q 2 ∧ p q 2 - 1 < 128; rw [p2]; exact hd
              | ⟨3, _⟩ => show 1 ≤ p q 3 ∧ p q 3 - 1 < 128; rw [p3]; exact hh
              | ⟨4, _⟩ => show 1 ≤ p q 4 ∧ p q 4 - 1 < 128; rw [p4]; exact hw
            · rw [out_pos _ _ hd, out_pos _ _ hh, out_neg _ _ hw]
          · rw [out_pos _ _ hd, out_neg _ _ hh]
        · rw [out_neg _ _ hd]
      rw [ef, eo, hv, EReal.coe_zero]
  rw [e, hv, foldl_sum, Equiv.sum_comp W.rowMajor.symm f, sum_places, ← bands_sum,
    ← coe_sum' fun a : Fin 3 => ∑ b : Fin 3, ∑ c : Fin 3, out (fun d' => out (fun i => out (fun j => Y d' i j) (w + c)) (h + b)) (d + a)]
  refine Finset.sum_congr rfl fun a _ => ?_
  rw [← coe_sum' fun b : Fin 3 => ∑ c : Fin 3, out (fun d' => out (fun i => out (fun j => Y d' i j) (w + c)) (h + b)) (d + a)]
  refine Finset.sum_congr rfl fun c _ => ?_
  rw [← coe_sum' fun g : Fin 3 => out (fun d' => out (fun i => out (fun j => Y d' i j) (w + g)) (h + c)) (d + a)]
  exact Finset.sum_congr rfl fun g _ => hf a c g

/-! ## The result -/

/-- The reference's result. -/
def resultR (V0 : Valuation τ sig (Elt Ideal)) : FVec Ideal S8x1x128x128x128 .f32 :=
  Host.divf (Host.reduceWindowAdd ![1, 1, 3, 3, 3] ![1, 1, 1, 1, 1] ![0, 0, 1, 1, 1] ![0, 0, 1, 1, 1]
    (transpose S8x1x128x128x128 [0, 1, 4, 2, 3] (res_main_v80 V0) transposes_S8x1x128x128x128_S8x1x128x128x128_0_1_4_2_3)
    (broadcastInDim S_ ![] bcast_S_S_ (constant S_ .f32 0x00000000#32))
    reduceWindows_S8x1x128x128x128_S8x1x128x128x128_w1s1p0_0_w1s1p0_0_w3s1p1_1_w3s1p1_1_w3s1p1_1 h_S_)
    (broadcastInDim S8x1x128x128x128 ![] bcast_S_S8x1x128x128x128 (constant S_ .f32 0x41D80000#32))

/-- The reference's result at one entry, where the resized x-ray of its image is real. -/
theorem reference_value (V0 : Valuation τ sig (Elt Ideal)) (x : Fin 128 → Fin 128 → ℝ) (b : Fin 8) (d h w : Fin 128)
    (hx : ∀ i j, resized (imageOf (xray V0) b) i j = ((x i j : ℝ) : EReal)) :
    resultR V0 (ix5 b (0 : Fin 1) d h w)
      = ((plane x (fun i j => wt d (near V0 b i j)) h w - plane x (fun i j => fix d (near V0 b i j)) h w : ℝ) : EReal) := by
  have ht : ∀ d h w, transpose S8x1x128x128x128 [0, 1, 4, 2, 3] (res_main_v80 V0) transposes_S8x1x128x128x128_S8x1x128x128x128_0_1_4_2_3
      (ix5 b (0 : Fin 1) d h w) = ((x h w * bell ((d.val : ℤ) - near V0 b h w) : ℝ) : EReal) := by
    intro d h w
    rw [← volume_apply V0 (x h w) b h w d (hx h w)]
    refine congrArg (res_main_v80 V0) (funext fun a => ?_)
    match a with
    | ⟨0, _⟩ => rfl
    | ⟨1, _⟩ => rfl
    | ⟨2, _⟩ => rfl
    | ⟨3, _⟩ => rfl
    | ⟨4, _⟩ => rfl
  have hz : ∀ i, (broadcastInDim S_ ![] bcast_S_S_ (constant (F := Ideal) S_ .f32 0x00000000#32) : FVec Ideal S_ .f32) i = (0 : EReal) := by
    intro i
    show Ideal.ofBits .f32 0x00000000#32 = 0
    rw [word_zero]; rfl
  unfold resultR
  rw [hostDivf_apply, window_apply _ _ b (fun d' i j => x i j * bell ((d'.val : ℤ) - near V0 b i j)) ht hz d h w]
  show Ideal.div _ (Ideal.ofBits .f32 0x41D80000#32) = _
  rw [word_27, coe_div' _ (by norm_num)]
  exact congrArg _ (pooled_eq x (fun i j => near V0 b i j) (fun i j => by have := near_le V0 b i j; omega) d h w)

end Cert.Splat.Ref

end
-- ==== Proof.Agree.lean ====
/- The two results are equal on a finite x-ray. -/
module

public import proofs.«01_k».proof.Proof.Volume
public import proofs.«01_k».proof.Proof.Pool
public import proofs.«01_k».proof.Pre_finite_x_ray

@[expose] public section

set_option maxRecDepth 16384

noncomputable section

namespace Cert.Splat

open Idealize.ShloMosaic hiding ix0 ix1 ix2 ix3 ix4 ix5 ix6
open Idealize.ShloMosaic.TcCoe Idealize.ShloMosaic.ValueIdx
open scoped BigOperators

/-- The precondition's shapes fit. -/
theorem preFacts : Cert.Pre_finite_x_ray.Facts where
  bcast_S_S8x1x512x512 := by decide

/-- Below infinity in absolute value is real. -/
theorem real_of_lt (x : EReal) (h : max x (-x) < ⊤) : ∃ r : ℝ, x = (r : EReal) := by
  induction x with
  | bot => simp at h
  | top => simp at h
  | coe r => exact ⟨r, rfl⟩

/-- The word of positive infinity denotes the top extended real. -/
theorem word_top : Ideal.ofBits .f32 0x7F800000#32 = ⊤ := by
  simp [Ideal.ofBits, Ideal.ieee]

/-- An input that the precondition holds of is real everywhere. -/
theorem finite [h : Cert.Pre_finite_x_ray.Facts] (a x : FVec Ideal Cert.Pre_finite_x_ray.S8x1x512x512 .f32)
    (hp : Cert.Pre_finite_x_ray.fn (F := Ideal) a x = fun _ => 1#1) (i : Cert.Pre_finite_x_ray.S8x1x512x512.Idx) :
    ∃ r : ℝ, x i = (r : EReal) := by
  have e : Ideal.cmp .olt (max (x i) (-x i)) (Ideal.ofBits .f32 0x7F800000#32) = 1#1 := congrFun hp i
  refine real_of_lt (x i) ?_
  rw [word_top] at e
  by_contra hn
  have e' : BitVec.ofBool (decide (max (x i) (-x i) < ⊤)) = 1#1 := e
  rw [decide_eq_false hn] at e'
  exact absurd e' (by decide)

/-- The resize of a real image is real. -/
theorem resized_real (f : Fin 512 → Fin 512 → EReal) (hf : ∀ i j, ∃ r : ℝ, f i j = (r : EReal)) :
    ∃ x : Fin 128 → Fin 128 → ℝ, ∀ h w, resized f h w = ((x h w : ℝ) : EReal) := by
  choose g hg using hf
  refine ⟨fun h w => ∑ j : Fin 512, (∑ i : Fin 512, share i h * g i j) * share j w, fun h w => ?_⟩
  unfold resized
  rw [← coe_sum' fun j : Fin 512 => (∑ i : Fin 512, share i h * g i j) * share j w]
  refine Finset.sum_congr rfl fun j _ => ?_
  rw [EReal.coe_mul, ← coe_sum' fun i : Fin 512 => share i h * g i j]
  refine congrArg (· * ((share j w : ℝ) : EReal)) (Finset.sum_congr rfl fun i _ => ?_)
  rw [hg, ← EReal.coe_mul]

/-- The kernel's result is the reference's. -/
theorem agree [Cert.Pre_finite_x_ray.Facts]
    (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (V0 : Valuation Cert.ReferenceIdeal.τ Cert.ReferenceIdeal.sig (Elt Ideal))
    (h0 : Ref.depths V0 = m ((c.tc : Thread Cert.KernelIdeal.nD Cert.KernelIdeal.τ).loc Cert.KernelIdeal.main_arg0))
    (h1 : Ref.xray V0 = m ((c.tc : Thread Cert.KernelIdeal.nD Cert.KernelIdeal.τ).loc Cert.KernelIdeal.main_arg1))
    (hp : Cert.Pre_finite_x_ray.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1) :
    Ref.resultR V0 = Cert.KernelIdeal.Gen.W6 m ρ c (Proc.devRef .tc Cert.KernelIdeal.main_v34) := by
  funext i
  obtain ⟨b, d, h, w, rfl⟩ : ∃ (b : Fin 8) (d h w : Fin 128), i = ix5 b (0 : Fin 1) d h w := by
    refine ⟨i 0, i 2, i 3, i 4, (ValueIdx.eq_ix5 i).trans ?_⟩
    exact congrArg (fun z : Fin 1 => (ix5 (i 0) z (i 2) (i 3) (i 4) : Cert.ReferenceIdeal.S8x1x128x128x128.Idx)) (Subsingleton.elim _ _)
  obtain ⟨x, hx⟩ := resized_real (imageOf (m ((c.tc : Thread Cert.KernelIdeal.nD Cert.KernelIdeal.τ).loc Cert.KernelIdeal.main_arg1)) b)
    fun i j => finite _ _ hp _
  refine (Ref.reference_value V0 x b d h w (fun i j => ?_)).trans ?_
  · rw [h1]; exact hx i j
  · refine Eq.trans ?_ (kernel_value x m ρ c b d h w hx).symm
    unfold Ref.near
    rw [h0]

end Cert.Splat

end
-- ==== Proof.lean ====
/- The claims about the two-call kernel and its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference runs to its end, its arguments unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- On a finite x-ray the kernel and the reference, from equal arguments, end with equal results. -/
theorem equal_results [Cert.Pre_finite_x_ray.Facts] : Cert.algebraic_KernelIdeal_ReferenceIdeal_pre_finite_x_ray := by
  intro m g m' g' hpre hagree
  refine ⟨fun c => Cert.KernelIdeal.Gen.W6 m g c (Proc.devRef .tc Cert.KernelIdeal.main_v34), Cert.Splat.run_value m g, ?_⟩
  refine (θ_run Cert.ReferenceIdeal.defs _ _).mono (fun r h c => ⟨(h c).1.trans ?_, (h c).2⟩) (Cert.ReferenceIdeal.Value.run m' g')
  exact Cert.Splat.agree m g c (StableHlo.launchContents m' c) (hagree c).1 (hagree c).2 (hpre c)

/-- Everything that is stated of the kernel and the reference. -/
theorem claim : Cert.Claim :=
  ⟨Cert.Kernel.Gen.facts, Cert.KernelIdeal.Gen.facts, Cert.ReferenceIdeal.Gen.facts, Cert.Splat.preFacts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    haveI := Cert.Splat.preFacts
    equal_results⟩

end Cert.Proof

end
